-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_UnclippedIdeal (m : (ℓ : Loc Cert.UnclippedIdeal.nD Cert.UnclippedIdeal.τ Cert.UnclippedIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_UnclippedIdeal [hUnclippedIdeal : Cert.UnclippedIdeal.Facts] : Prop :=
  ∀ (m : (ℓ : Loc Cert.UnclippedIdeal.nD Cert.UnclippedIdeal.τ Cert.UnclippedIdeal.sig) → Buf (Elt Ideal) ℓ) (g : Dev Cert.UnclippedIdeal.nD → PrngReg), Pre_UnclippedIdeal m →
    θ_run (Cert.UnclippedIdeal.defs (F := Ideal)) (onTc (τ := Cert.UnclippedIdeal.τ) (Cert.UnclippedIdeal.main (F := Ideal))) ⟨m, fun _ => 0, g⟩ (fun r => (∀ c : Dev Cert.UnclippedIdeal.nD,
      r.2.mem ((c.tc : Thread Cert.UnclippedIdeal.nD Cert.UnclippedIdeal.τ).loc Cert.UnclippedIdeal.main_arg0) = m ((c.tc : Thread Cert.UnclippedIdeal.nD Cert.UnclippedIdeal.τ).loc Cert.UnclippedIdeal.main_arg0)
      ∧ r.2.mem ((c.tc : Thread Cert.UnclippedIdeal.nD Cert.UnclippedIdeal.τ).loc Cert.UnclippedIdeal.main_arg1) = m ((c.tc : Thread Cert.UnclippedIdeal.nD Cert.UnclippedIdeal.τ).loc Cert.UnclippedIdeal.main_arg1))
      ∧ r.2.sem = fun _ => 0)

def preserves_Kernel_KernelIdeal : Prop :=
  True

def algebraic_KernelIdeal_UnclippedIdeal [hKernelIdeal : Cert.KernelIdeal.Facts] [hUnclippedIdeal : Cert.UnclippedIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.UnclippedIdeal.nD Cert.UnclippedIdeal.τ Cert.UnclippedIdeal.sig) → Buf (Elt Ideal) ℓ) (g' : Dev Cert.UnclippedIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![2048, 128]⟩ ⟨2, ![2048, 2048]⟩ 1 16 c (m' (((0 : Dev Cert.UnclippedIdeal.nD).tc : Thread Cert.UnclippedIdeal.nD Cert.UnclippedIdeal.τ).loc Cert.UnclippedIdeal.main_arg0))
      ∧ m ((c.tc : Thread Cert.KernelIdeal.nD Cert.KernelIdeal.τ).loc Cert.KernelIdeal.main_arg1) = m' (((0 : Dev Cert.UnclippedIdeal.nD).tc : Thread Cert.UnclippedIdeal.nD Cert.UnclippedIdeal.τ).loc Cert.UnclippedIdeal.main_arg1)) →
    ∃ (v0 : Buf (Elt Ideal) (((0 : Dev Cert.UnclippedIdeal.nD).tc : Thread Cert.UnclippedIdeal.nD Cert.UnclippedIdeal.τ).loc Cert.UnclippedIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![128, 2048]⟩ ⟨2, ![2048, 2048]⟩ 0 16 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.UnclippedIdeal.defs (F := Ideal)) (onTc (τ := Cert.UnclippedIdeal.τ) (Cert.UnclippedIdeal.main (F := Ideal))) ⟨m', fun _ => 0, g'⟩ (fun r =>
          r.2.mem (((0 : Dev Cert.UnclippedIdeal.nD).tc : Thread Cert.UnclippedIdeal.nD Cert.UnclippedIdeal.τ).loc Cert.UnclippedIdeal.main_v5) = v0
          ∧ r.2.mem (((0 : Dev Cert.UnclippedIdeal.nD).tc : Thread Cert.UnclippedIdeal.nD Cert.UnclippedIdeal.τ).loc Cert.UnclippedIdeal.main_arg0) = m' (((0 : Dev Cert.UnclippedIdeal.nD).tc : Thread Cert.UnclippedIdeal.nD Cert.UnclippedIdeal.τ).loc Cert.UnclippedIdeal.main_arg0)
          ∧ r.2.mem (((0 : Dev Cert.UnclippedIdeal.nD).tc : Thread Cert.UnclippedIdeal.nD Cert.UnclippedIdeal.τ).loc Cert.UnclippedIdeal.main_arg1) = m' (((0 : Dev Cert.UnclippedIdeal.nD).tc : Thread Cert.UnclippedIdeal.nD Cert.UnclippedIdeal.τ).loc Cert.UnclippedIdeal.main_arg1))

def algebraic_KernelIdeal_ReferenceIdeal_on_within_clip [hKernelIdeal : Cert.KernelIdeal.Facts] [hReferenceIdeal : Cert.ReferenceIdeal.Facts] [hOn_within_clip : Cert.On_within_clip.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![2048, 128]⟩ ⟨2, ![2048, 2048]⟩ 1 16 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨2, ![128, 2048]⟩ : Shape).Idx, (Layout.block ⟨2, ![128, 2048]⟩ ⟨2, ![2048, 2048]⟩ 0 16 c ((Cert.On_within_clip.fn (F := Ideal) (m' (((0 : Dev Cert.ReferenceIdeal.nD).tc : Thread Cert.ReferenceIdeal.nD Cert.ReferenceIdeal.τ).loc Cert.ReferenceIdeal.main_arg0)) (m' (((0 : Dev Cert.ReferenceIdeal.nD).tc : Thread Cert.ReferenceIdeal.nD Cert.ReferenceIdeal.τ).loc Cert.ReferenceIdeal.main_arg1)))) : (⟨2, ![128, 2048]⟩ : Shape).Idx → _) i = 1#1 → r.2.mem ((c.tc : Thread Cert.KernelIdeal.nD Cert.KernelIdeal.τ).loc Cert.KernelIdeal.main_v1) i = (Layout.block ⟨2, ![128, 2048]⟩ ⟨2, ![2048, 2048]⟩ 0 16 c v0 : (⟨2, ![128, 2048]⟩ : Shape).Idx → _) i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          (∀ i : (⟨2, ![2048, 2048]⟩ : Shape).Idx, (Cert.On_within_clip.fn (F := Ideal) (m' (((0 : Dev Cert.ReferenceIdeal.nD).tc : Thread Cert.ReferenceIdeal.nD Cert.ReferenceIdeal.τ).loc Cert.ReferenceIdeal.main_arg0)) (m' (((0 : Dev Cert.ReferenceIdeal.nD).tc : Thread Cert.ReferenceIdeal.nD Cert.ReferenceIdeal.τ).loc Cert.ReferenceIdeal.main_arg1))) i = 1#1 → r.2.mem (((0 : Dev Cert.ReferenceIdeal.nD).tc : Thread Cert.ReferenceIdeal.nD Cert.ReferenceIdeal.τ).loc Cert.ReferenceIdeal.main_v6) i = v0 i)
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hUnclippedIdeal : Cert.UnclippedIdeal.Facts) (hOn_within_clip : Cert.On_within_clip.Facts),
    quiescent_Kernel (hKernel := hKernel)
    ∧ quiescent_KernelIdeal (hKernelIdeal := hKernelIdeal)
    ∧ quiescent_ReferenceIdeal (hReferenceIdeal := hReferenceIdeal)
    ∧ quiescent_UnclippedIdeal (hUnclippedIdeal := hUnclippedIdeal)
    ∧ preserves_Kernel_KernelIdeal
    ∧ algebraic_KernelIdeal_UnclippedIdeal (hKernelIdeal := hKernelIdeal) (hUnclippedIdeal := hUnclippedIdeal)
    ∧ algebraic_KernelIdeal_ReferenceIdeal_on_within_clip (hKernelIdeal := hKernelIdeal) (hReferenceIdeal := hReferenceIdeal) (hOn_within_clip := hOn_within_clip)
-- ==== On_within_clip.lean ====
abbrev S2048x2048 : Shape := ⟨2, ![2048, 2048]⟩
abbrev S_ : Shape := ⟨0, ![]⟩

class Facts : Prop where
  bcast_S_S2048x2048 : S_.BroadcastsInDim S2048x2048 (![] : Fin 0 → Fin S2048x2048.rank)
  dot_S2048x2048_S2048x2048_S2048x2048_1_0_0_1_n_n_wf : DotDims.WF S2048x2048 S2048x2048 S2048x2048 [1] [0] [0] [1] [] []

variable [Facts]

def dot_S2048x2048_S2048x2048_S2048x2048_1_0_0_1_n_n : DotDims S2048x2048 S2048x2048 S2048x2048 where
  lhsContracting := [1]
  rhsContracting := [0]
  lhsNonContracting := [0]
  rhsNonContracting := [1]
  lhsBatch := []
  rhsBatch := []
  wf := dot_S2048x2048_S2048x2048_S2048x2048_1_0_0_1_n_n_wf
def fn {F : FTy → Type} [FloatOps F] (main_arg0 : FVec F S2048x2048 .f32) (main_arg1 : FVec F S2048x2048 .f32) : IVec S2048x2048 1 :=
  let main_v0 : FVec F S2048x2048 .f32 := (fun l r => Host.dotGeneral dot_S2048x2048_S2048x2048_S2048x2048_1_0_0_1_n_n none l r) main_arg0 main_arg1
  let main_cst : FVec F S_ .f32 := constant S_ .f32 0xC2700000#32
  let main_v1 : FVec F S2048x2048 .f32 := broadcastInDim S2048x2048 ![] bcast_S_S2048x2048 main_cst
  let main_v2 : IVec S2048x2048 1 := cmpf .oge main_v0 main_v1
  let main_cst_0 : FVec F S_ .f32 := constant S_ .f32 0x42700000#32
  let main_v3 : FVec F S2048x2048 .f32 := broadcastInDim S2048x2048 ![] bcast_S_S2048x2048 main_cst_0
  let main_v4 : IVec S2048x2048 1 := cmpf .ole main_v0 main_v3
  let main_v5 : IVec S2048x2048 1 := andi main_v2 main_v4
  main_v5
-- ==== Kernel.lean ====
abbrev S2048x128 : Shape := ⟨2, ![2048, 128]⟩
abbrev S2048x2048 : Shape := ⟨2, ![2048, 2048]⟩
abbrev S128x2048 : Shape := ⟨2, ![128, 2048]⟩
abbrev S16x128x128 : Shape := ⟨3, ![16, 128, 128]⟩
abbrev S8x256x2048 : Shape := ⟨3, ![8, 256, 2048]⟩
abbrev S16 : Shape := ⟨1, ![16]⟩
abbrev S8 : Shape := ⟨1, ![8]⟩
abbrev S_ : Shape := ⟨0, ![]⟩
abbrev S1 : Shape := ⟨1, ![1]⟩
abbrev S1x256x2048 : Shape := ⟨3, ![1, 256, 2048]⟩
abbrev S256x2048 : Shape := ⟨2, ![256, 2048]⟩
abbrev S128x128 : Shape := ⟨2, ![128, 128]⟩
abbrev S1x128x128 : Shape := ⟨3, ![1, 128, 128]⟩
abbrev S128x256 : Shape := ⟨2, ![128, 256]⟩

abbrev nBuf : Space → Nat
  | .hbm => 3
  | .vmem => 6
  | .smem => 0
  | _ => 0

abbrev bufTy : (tb : Table) → Fin (tcTables nBuf tb) → BufTy
  | .hbm, ⟨0, _⟩ => ⟨S2048x128, .f32⟩
  | .hbm, ⟨1, _⟩ => ⟨S2048x2048, .f32⟩
  | .hbm, ⟨2, _⟩ => ⟨S128x2048, .f32⟩
  | .local _ .vmem, ⟨0, _⟩ => ⟨S2048x128, .f32⟩
  | .local _ .vmem, ⟨1, _⟩ => ⟨S2048x128, .bf16⟩
  | .local _ .vmem, ⟨2, _⟩ => ⟨S16x128x128, .bf16⟩
  | .local _ .vmem, ⟨3, _⟩ => ⟨S128x2048, .bf16⟩
  | .local _ .vmem, ⟨4, _⟩ => ⟨S8x256x2048, .f32⟩
  | .local _ .vmem, ⟨5, _⟩ => ⟨S128x2048, .f32⟩
  | _, _ => ⟨S2048x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 1 → Bool
  | ⟨0, _⟩ => false
  | _ => false

abbrev dmaSemScoped : Fin 42 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | _ => false

abbrev sig : RefSig :=
  (ofTc nBuf bufTy 1 42 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_scratch0 : Ref sig .tc := ⟨.vmem, 0, rfl⟩
abbrev cc0_scratch1 : Ref sig .tc := ⟨.vmem, 1, rfl⟩
abbrev cc0_scratch2 : Ref sig .tc := ⟨.vmem, 2, rfl⟩
abbrev cc0_scratch3 : Ref sig .tc := ⟨.vmem, 3, rfl⟩
abbrev cc0_scratch4 : Ref sig .tc := ⟨.vmem, 4, rfl⟩
abbrev cc0_scratch5 : Ref sig .tc := ⟨.vmem, 5, rfl⟩
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32_38 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_34 : BitVec 32 := 1#32
  let v44 : BitVec 32 := Scalar.addi v2 c1_i32_34
  let c16_i32_35 : BitVec 32 := 16#32
  let v45 : BitVec 32 := Scalar.remsi v44 c16_i32_35
  let c1_i32_37 : BitVec 32 := 1#32
  let v46 : BitVec 32 := Scalar.muli v45 c1_i32_37
  let v47 : BitVec 32 := Scalar.addi c0_i32_38 v46
  v47.toNat
def k0_dev2 (d0 : Dev nD) : Nat :=
  let c0_i32_43 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_39 : BitVec 32 := 2#32
  let v48 : BitVec 32 := Scalar.addi v2 c2_i32_39
  let c16_i32_40 : BitVec 32 := 16#32
  let v49 : BitVec 32 := Scalar.remsi v48 c16_i32_40
  let c1_i32_42 : BitVec 32 := 1#32
  let v50 : BitVec 32 := Scalar.muli v49 c1_i32_42
  let v51 : BitVec 32 := Scalar.addi c0_i32_43 v50
  v51.toNat
def k0_dev3 (d0 : Dev nD) : Nat :=
  let c0_i32_48 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_44 : BitVec 32 := 3#32
  let v52 : BitVec 32 := Scalar.addi v2 c3_i32_44
  let c16_i32_45 : BitVec 32 := 16#32
  let v53 : BitVec 32 := Scalar.remsi v52 c16_i32_45
  let c1_i32_47 : BitVec 32 := 1#32
  let v54 : BitVec 32 := Scalar.muli v53 c1_i32_47
  let v55 : BitVec 32 := Scalar.addi c0_i32_48 v54
  v55.toNat
def k0_dev4 (d0 : Dev nD) : Nat :=
  let c0_i32_53 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_49 : BitVec 32 := 4#32
  let v56 : BitVec 32 := Scalar.addi v2 c4_i32_49
  let c16_i32_50 : BitVec 32 := 16#32
  let v57 : BitVec 32 := Scalar.remsi v56 c16_i32_50
  let c1_i32_52 : BitVec 32 := 1#32
  let v58 : BitVec 32 := Scalar.muli v57 c1_i32_52
  let v59 : BitVec 32 := Scalar.addi c0_i32_53 v58
  v59.toNat
def k0_dev5 (d0 : Dev nD) : Nat :=
  let c0_i32_58 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_54 : BitVec 32 := 5#32
  let v60 : BitVec 32 := Scalar.addi v2 c5_i32_54
  let c16_i32_55 : BitVec 32 := 16#32
  let v61 : BitVec 32 := Scalar.remsi v60 c16_i32_55
  let c1_i32_57 : BitVec 32 := 1#32
  let v62 : BitVec 32 := Scalar.muli v61 c1_i32_57
  let v63 : BitVec 32 := Scalar.addi c0_i32_58 v62
  v63.toNat
def k0_dev6 (d0 : Dev nD) : Nat :=
  let c0_i32_63 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_59 : BitVec 32 := 6#32
  let v64 : BitVec 32 := Scalar.addi v2 c6_i32_59
  let c16_i32_60 : BitVec 32 := 16#32
  let v65 : BitVec 32 := Scalar.remsi v64 c16_i32_60
  let c1_i32_62 : BitVec 32 := 1#32
  let v66 : BitVec 32 := Scalar.muli v65 c1_i32_62
  let v67 : BitVec 32 := Scalar.addi c0_i32_63 v66
  v67.toNat
def k0_dev7 (d0 : Dev nD) : Nat :=
  let c0_i32_68 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_64 : BitVec 32 := 7#32
  let v68 : BitVec 32 := Scalar.addi v2 c7_i32_64
  let c16_i32_65 : BitVec 32 := 16#32
  let v69 : BitVec 32 := Scalar.remsi v68 c16_i32_65
  let c1_i32_67 : BitVec 32 := 1#32
  let v70 : BitVec 32 := Scalar.muli v69 c1_i32_67
  let v71 : BitVec 32 := Scalar.addi c0_i32_68 v70
  v71.toNat
def k0_dev8 (d0 : Dev nD) : Nat :=
  let c0_i32_72 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v72 : BitVec 32 := Scalar.addi v2 c8_i32
  let c16_i32_69 : BitVec 32 := 16#32
  let v73 : BitVec 32 := Scalar.remsi v72 c16_i32_69
  let c1_i32_71 : BitVec 32 := 1#32
  let v74 : BitVec 32 := Scalar.muli v73 c1_i32_71
  let v75 : BitVec 32 := Scalar.addi c0_i32_72 v74
  v75.toNat
def k0_dev9 (d0 : Dev nD) : Nat :=
  let c0_i32_76 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32 : BitVec 32 := 9#32
  let v76 : BitVec 32 := Scalar.addi v2 c9_i32
  let c16_i32_73 : BitVec 32 := 16#32
  let v77 : BitVec 32 := Scalar.remsi v76 c16_i32_73
  let c1_i32_75 : BitVec 32 := 1#32
  let v78 : BitVec 32 := Scalar.muli v77 c1_i32_75
  let v79 : BitVec 32 := Scalar.addi c0_i32_76 v78
  v79.toNat
def k0_dev10 (d0 : Dev nD) : Nat :=
  let c0_i32_80 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32 : BitVec 32 := 10#32
  let v80 : BitVec 32 := Scalar.addi v2 c10_i32
  let c16_i32_77 : BitVec 32 := 16#32
  let v81 : BitVec 32 := Scalar.remsi v80 c16_i32_77
  let c1_i32_79 : BitVec 32 := 1#32
  let v82 : BitVec 32 := Scalar.muli v81 c1_i32_79
  let v83 : BitVec 32 := Scalar.addi c0_i32_80 v82
  v83.toNat
def k0_dev11 (d0 : Dev nD) : Nat :=
  let c0_i32_84 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32 : BitVec 32 := 11#32
  let v84 : BitVec 32 := Scalar.addi v2 c11_i32
  let c16_i32_81 : BitVec 32 := 16#32
  let v85 : BitVec 32 := Scalar.remsi v84 c16_i32_81
  let c1_i32_83 : BitVec 32 := 1#32
  let v86 : BitVec 32 := Scalar.muli v85 c1_i32_83
  let v87 : BitVec 32 := Scalar.addi c0_i32_84 v86
  v87.toNat
def k0_dev12 (d0 : Dev nD) : Nat :=
  let c0_i32_88 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32 : BitVec 32 := 12#32
  let v88 : BitVec 32 := Scalar.addi v2 c12_i32
  let c16_i32_85 : BitVec 32 := 16#32
  let v89 : BitVec 32 := Scalar.remsi v88 c16_i32_85
  let c1_i32_87 : BitVec 32 := 1#32
  let v90 : BitVec 32 := Scalar.muli v89 c1_i32_87
  let v91 : BitVec 32 := Scalar.addi c0_i32_88 v90
  v91.toNat
def k0_dev13 (d0 : Dev nD) : Nat :=
  let c0_i32_92 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32 : BitVec 32 := 13#32
  let v92 : BitVec 32 := Scalar.addi v2 c13_i32
  let c16_i32_89 : BitVec 32 := 16#32
  let v93 : BitVec 32 := Scalar.remsi v92 c16_i32_89
  let c1_i32_91 : BitVec 32 := 1#32
  let v94 : BitVec 32 := Scalar.muli v93 c1_i32_91
  let v95 : BitVec 32 := Scalar.addi c0_i32_92 v94
  v95.toNat
def k0_dev14 (d0 : Dev nD) : Nat :=
  let c0_i32_96 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32 : BitVec 32 := 14#32
  let v96 : BitVec 32 := Scalar.addi v2 c14_i32
  let c16_i32_93 : BitVec 32 := 16#32
  let v97 : BitVec 32 := Scalar.remsi v96 c16_i32_93
  let c1_i32_95 : BitVec 32 := 1#32
  let v98 : BitVec 32 := Scalar.muli v97 c1_i32_95
  let v99 : BitVec 32 := Scalar.addi c0_i32_96 v98
  v99.toNat
def k0_dev15 (d0 : Dev nD) : Nat :=
  let c0_i32_100 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32 : BitVec 32 := 15#32
  let v100 : BitVec 32 := Scalar.addi v2 c15_i32
  let c16_i32_97 : BitVec 32 := 16#32
  let v101 : BitVec 32 := Scalar.remsi v100 c16_i32_97
  let c1_i32_99 : BitVec 32 := 1#32
  let v102 : BitVec 32 := Scalar.muli v101 c1_i32_99
  let v103 : BitVec 32 := Scalar.addi c0_i32_100 v102
  v103.toNat
def k0_off1 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c128_i32 : BitVec 32 := 128#32
  let v109 : BitVec 32 := Scalar.muli v2 c128_i32
  let v110 : Index := Scalar.indexCast v109
  let c0_104 : Index := 0#32
  ![v110.toNat, 0]
def k0_off2 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v112 : Index := Scalar.indexCast v2
  let c0_105 : Index := 0#32
  let c0_106 : Index := 0#32
  ![v112.toNat, 0, 0]
def k0_off3 (d0 : Dev nD) : Fin 2 → Nat :=
  let c0_110 : Index := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c128_i32_109 : BitVec 32 := 128#32
  let v119 : BitVec 32 := Scalar.muli v2 c128_i32_109
  let v120 : Index := Scalar.indexCast v119
  ![0, v120.toNat]
def k0_off4 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off5 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_118 : BitVec 32 := 0#32
  let c0_i32_119 : BitVec 32 := 0#32
  ![v2.toNat, 0, 0]
def k0_off6 (d0 : Dev nD) (c1_i32_112 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v124 : BitVec 32 := Scalar.addi v2 c1_i32_112
  let c16_i32_113 : BitVec 32 := 16#32
  let v125 : BitVec 32 := Scalar.remsi v124 c16_i32_113
  let c128_i32_114 : BitVec 32 := 128#32
  let v126 : BitVec 32 := Scalar.muli v125 c128_i32_114
  let c0_i32_120 : BitVec 32 := 0#32
  ![v126.toNat, 0]
def k0_dev16 (d0 : Dev nD) : Nat :=
  let c0_i32_117 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_112 : BitVec 32 := 1#32
  let v124 : BitVec 32 := Scalar.addi v2 c1_i32_112
  let c16_i32_113 : BitVec 32 := 16#32
  let v125 : BitVec 32 := Scalar.remsi v124 c16_i32_113
  let c1_i32_116 : BitVec 32 := 1#32
  let v127 : BitVec 32 := Scalar.muli v125 c1_i32_116
  let v128 : BitVec 32 := Scalar.addi c0_i32_117 v127
  v128.toNat
def k0_dev17 (d0 : Dev nD) : Nat :=
  let c0_i32_126 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_121 : BitVec 32 := 2#32
  let v136 : BitVec 32 := Scalar.addi v2 c2_i32_121
  let c16_i32_122 : BitVec 32 := 16#32
  let v137 : BitVec 32 := Scalar.remsi v136 c16_i32_122
  let c1_i32_125 : BitVec 32 := 1#32
  let v139 : BitVec 32 := Scalar.muli v137 c1_i32_125
  let v140 : BitVec 32 := Scalar.addi c0_i32_126 v139
  v140.toNat
def k0_dev18 (d0 : Dev nD) : Nat :=
  let c0_i32_135 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_130 : BitVec 32 := 3#32
  let v148 : BitVec 32 := Scalar.addi v2 c3_i32_130
  let c16_i32_131 : BitVec 32 := 16#32
  let v149 : BitVec 32 := Scalar.remsi v148 c16_i32_131
  let c1_i32_134 : BitVec 32 := 1#32
  let v151 : BitVec 32 := Scalar.muli v149 c1_i32_134
  let v152 : BitVec 32 := Scalar.addi c0_i32_135 v151
  v152.toNat
def k0_dev19 (d0 : Dev nD) : Nat :=
  let c0_i32_144 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_139 : BitVec 32 := 4#32
  let v160 : BitVec 32 := Scalar.addi v2 c4_i32_139
  let c16_i32_140 : BitVec 32 := 16#32
  let v161 : BitVec 32 := Scalar.remsi v160 c16_i32_140
  let c1_i32_143 : BitVec 32 := 1#32
  let v163 : BitVec 32 := Scalar.muli v161 c1_i32_143
  let v164 : BitVec 32 := Scalar.addi c0_i32_144 v163
  v164.toNat
def k0_dev20 (d0 : Dev nD) : Nat :=
  let c0_i32_153 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_148 : BitVec 32 := 5#32
  let v172 : BitVec 32 := Scalar.addi v2 c5_i32_148
  let c16_i32_149 : BitVec 32 := 16#32
  let v173 : BitVec 32 := Scalar.remsi v172 c16_i32_149
  let c1_i32_152 : BitVec 32 := 1#32
  let v175 : BitVec 32 := Scalar.muli v173 c1_i32_152
  let v176 : BitVec 32 := Scalar.addi c0_i32_153 v175
  v176.toNat
def k0_dev21 (d0 : Dev nD) : Nat :=
  let c0_i32_162 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_157 : BitVec 32 := 6#32
  let v184 : BitVec 32 := Scalar.addi v2 c6_i32_157
  let c16_i32_158 : BitVec 32 := 16#32
  let v185 : BitVec 32 := Scalar.remsi v184 c16_i32_158
  let c1_i32_161 : BitVec 32 := 1#32
  let v187 : BitVec 32 := Scalar.muli v185 c1_i32_161
  let v188 : BitVec 32 := Scalar.addi c0_i32_162 v187
  v188.toNat
def k0_dev22 (d0 : Dev nD) : Nat :=
  let c0_i32_171 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_166 : BitVec 32 := 7#32
  let v196 : BitVec 32 := Scalar.addi v2 c7_i32_166
  let c16_i32_167 : BitVec 32 := 16#32
  let v197 : BitVec 32 := Scalar.remsi v196 c16_i32_167
  let c1_i32_170 : BitVec 32 := 1#32
  let v199 : BitVec 32 := Scalar.muli v197 c1_i32_170
  let v200 : BitVec 32 := Scalar.addi c0_i32_171 v199
  v200.toNat
def k0_dev23 (d0 : Dev nD) : Nat :=
  let c0_i32_180 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_175 : BitVec 32 := 8#32
  let v208 : BitVec 32 := Scalar.addi v2 c8_i32_175
  let c16_i32_176 : BitVec 32 := 16#32
  let v209 : BitVec 32 := Scalar.remsi v208 c16_i32_176
  let c1_i32_179 : BitVec 32 := 1#32
  let v211 : BitVec 32 := Scalar.muli v209 c1_i32_179
  let v212 : BitVec 32 := Scalar.addi c0_i32_180 v211
  v212.toNat
def k0_dev24 (d0 : Dev nD) : Nat :=
  let c0_i32_189 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_184 : BitVec 32 := 9#32
  let v220 : BitVec 32 := Scalar.addi v2 c9_i32_184
  let c16_i32_185 : BitVec 32 := 16#32
  let v221 : BitVec 32 := Scalar.remsi v220 c16_i32_185
  let c1_i32_188 : BitVec 32 := 1#32
  let v223 : BitVec 32 := Scalar.muli v221 c1_i32_188
  let v224 : BitVec 32 := Scalar.addi c0_i32_189 v223
  v224.toNat
def k0_dev25 (d0 : Dev nD) : Nat :=
  let c0_i32_198 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_193 : BitVec 32 := 10#32
  let v232 : BitVec 32 := Scalar.addi v2 c10_i32_193
  let c16_i32_194 : BitVec 32 := 16#32
  let v233 : BitVec 32 := Scalar.remsi v232 c16_i32_194
  let c1_i32_197 : BitVec 32 := 1#32
  let v235 : BitVec 32 := Scalar.muli v233 c1_i32_197
  let v236 : BitVec 32 := Scalar.addi c0_i32_198 v235
  v236.toNat
def k0_dev26 (d0 : Dev nD) : Nat :=
  let c0_i32_207 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_202 : BitVec 32 := 11#32
  let v244 : BitVec 32 := Scalar.addi v2 c11_i32_202
  let c16_i32_203 : BitVec 32 := 16#32
  let v245 : BitVec 32 := Scalar.remsi v244 c16_i32_203
  let c1_i32_206 : BitVec 32 := 1#32
  let v247 : BitVec 32 := Scalar.muli v245 c1_i32_206
  let v248 : BitVec 32 := Scalar.addi c0_i32_207 v247
  v248.toNat
def k0_dev27 (d0 : Dev nD) : Nat :=
  let c0_i32_216 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_211 : BitVec 32 := 12#32
  let v256 : BitVec 32 := Scalar.addi v2 c12_i32_211
  let c16_i32_212 : BitVec 32 := 16#32
  let v257 : BitVec 32 := Scalar.remsi v256 c16_i32_212
  let c1_i32_215 : BitVec 32 := 1#32
  let v259 : BitVec 32 := Scalar.muli v257 c1_i32_215
  let v260 : BitVec 32 := Scalar.addi c0_i32_216 v259
  v260.toNat
def k0_dev28 (d0 : Dev nD) : Nat :=
  let c0_i32_225 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_220 : BitVec 32 := 13#32
  let v268 : BitVec 32 := Scalar.addi v2 c13_i32_220
  let c16_i32_221 : BitVec 32 := 16#32
  let v269 : BitVec 32 := Scalar.remsi v268 c16_i32_221
  let c1_i32_224 : BitVec 32 := 1#32
  let v271 : BitVec 32 := Scalar.muli v269 c1_i32_224
  let v272 : BitVec 32 := Scalar.addi c0_i32_225 v271
  v272.toNat
def k0_dev29 (d0 : Dev nD) : Nat :=
  let c0_i32_234 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_229 : BitVec 32 := 14#32
  let v280 : BitVec 32 := Scalar.addi v2 c14_i32_229
  let c16_i32_230 : BitVec 32 := 16#32
  let v281 : BitVec 32 := Scalar.remsi v280 c16_i32_230
  let c1_i32_233 : BitVec 32 := 1#32
  let v283 : BitVec 32 := Scalar.muli v281 c1_i32_233
  let v284 : BitVec 32 := Scalar.addi c0_i32_234 v283
  v284.toNat
def k0_dev30 (d0 : Dev nD) : Nat :=
  let c0_i32_243 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_238 : BitVec 32 := 15#32
  let v292 : BitVec 32 := Scalar.addi v2 c15_i32_238
  let c16_i32_239 : BitVec 32 := 16#32
  let v293 : BitVec 32 := Scalar.remsi v292 c16_i32_239
  let c1_i32_242 : BitVec 32 := 1#32
  let v295 : BitVec 32 := Scalar.muli v293 c1_i32_242
  let v296 : BitVec 32 := Scalar.addi c0_i32_243 v295
  v296.toNat
-- ==== ReferenceIdeal.lean ====
abbrev S2048x2048 : Shape := ⟨2, ![2048, 2048]⟩
abbrev S_ : Shape := ⟨0, ![]⟩

abbrev nBuf : Space → Nat
  | .hbm => 17
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S2048x2048, .f32⟩
  | .hbm, ⟨7, _⟩ => ⟨S2048x2048, .f32⟩
  | .hbm, ⟨8, _⟩ => ⟨S_, .f32⟩
  | .hbm, ⟨9, _⟩ => ⟨S2048x2048, .f32⟩
  | .hbm, ⟨10, _⟩ => ⟨S2048x2048, .f32⟩
  | .hbm, ⟨11, _⟩ => ⟨S2048x2048, .f32⟩
  | .hbm, ⟨12, _⟩ => ⟨S2048x2048, .f32⟩
  | .hbm, ⟨13, _⟩ => ⟨S_, .f32⟩
  | .hbm, ⟨14, _⟩ => ⟨S2048x2048, .f32⟩
  | .hbm, ⟨15, _⟩ => ⟨S2048x2048, .f32⟩
  | .hbm, ⟨16, _⟩ => ⟨S2048x2048, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_cst_0 : Ref sig .tc := ⟨.hbm, 4, rfl⟩
abbrev main_call0_v0 : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst_1 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩

abbrev nD : Nat := 1
abbrev τ : Topo := Topo.v7x

variable {F : FTy → Type} [FloatOps F]
-- ==== UnclippedIdeal.lean ====
abbrev S2048x2048 : Shape := ⟨2, ![2048, 2048]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .f32⟩
  | .hbm, ⟨3, _⟩ => ⟨S2048x2048, .f32⟩
  | .hbm, ⟨4, _⟩ => ⟨S2048x2048, .f32⟩
  | .hbm, ⟨5, _⟩ => ⟨S_, .f32⟩
  | .hbm, ⟨6, _⟩ => ⟨S2048x2048, .f32⟩
  | .hbm, ⟨7, _⟩ => ⟨S2048x2048, .f32⟩
  | .hbm, ⟨8, _⟩ => ⟨S2048x2048, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Proof.Geometry.lean ====
/-
The pieces the kernel cuts its buffers in, and what they hold: the sixteen slots of the gathered buffer, the sixteen
row blocks of the rounded operand, the eight slots of the weight buffer with the eight row blocks of the weight they are
copied from, and the sixteen column blocks of the assembled rows.
-/
module

public import proofs.«01_k».proof.Proof.Gen.KernelIdeal
public import proofs.«01_k».proof.Proof.Gen.KernelIdeal.Skeleton
public import Idealize.ShloMosaic.Lib.Pipeline.Launch
public import Idealize.ShloMosaic.Lib.Pipeline.Kit
public import Idealize.ShloMosaic.Lib.Pipeline.Value
public import Idealize.ShloMosaic.Lib.ValueIdxCore
public import Idealize.ShloMosaic.Lib.ValueIdxCoords
public import Idealize.ShloMosaic.Lib.Tactic

@[expose] public section

noncomputable section

namespace Cert.A2A

open Cert.KernelIdeal Cert.KernelIdeal.Gen
open Idealize.ShloMosaic Idealize.ShloMosaic.TcCoe
open Idealize.ShloMosaic.ValueIdx

variable {F : FTy → Type} [FloatOps F]

/-! ## The memrefs -/

abbrev xA : Memref sig .tc .hbm S2048x128 .f32 := Memref.whole main_arg0
abbrev wA : Memref sig .tc .hbm S2048x2048 .f32 := Memref.whole main_arg1
abbrev oA : Memref sig .tc .hbm S128x2048 .f32 := Memref.whole main_v1
abbrev xV : Memref sig .tc .vmem S2048x128 .f32 := Memref.whole cc0_scratch0
abbrev bV : Memref sig .tc .vmem S2048x128 .bf16 := Memref.whole cc0_scratch1
abbrev gV : Memref sig .tc .vmem S16x128x128 .bf16 := Memref.whole cc0_scratch2
abbrev rV : Memref sig .tc .vmem S128x2048 .bf16 := Memref.whole cc0_scratch3
abbrev wV : Memref sig .tc .vmem S8x256x2048 .f32 := Memref.whole cc0_scratch4
abbrev yV : Memref sig .tc .vmem S128x2048 .f32 := Memref.whole cc0_scratch5

theorem slot_inb (j : Fin 16) : ∀ a, (![j.val, 0, 0] : Fin 3 → Nat) a + S1x128x128.size a ≤ S16x128x128.size a := by
  revert j; decide
theorem blk_inb (e : Fin 16) : ∀ a, (![128 * e.val, 0] : Fin 2 → Nat) a + S128x128.size a ≤ S2048x128.size a := by
  revert e; decide
theorem col_inb (j : Fin 16) : ∀ a, (![0, 128 * j.val] : Fin 2 → Nat) a + S128x128.size a ≤ S128x2048.size a := by
  revert j; decide
theorem wslot_inb (k : Fin 8) : ∀ a, (![k.val, 0, 0] : Fin 3 → Nat) a + S1x256x2048.size a ≤ S8x256x2048.size a := by
  revert k; decide
theorem wrow_inb (k : Fin 8) : ∀ a, (![256 * k.val, 0] : Fin 2 → Nat) a + S256x2048.size a ≤ S2048x2048.size a := by
  revert k; decide
theorem chunk_inb (k : Fin 8) : ∀ a, (![0, 256 * k.val] : Fin 2 → Nat) a + S128x256.size a ≤ S128x2048.size a := by
  revert k; decide

/-- Slot `j` of the gathered buffer as a load or a store names it, -/
abbrev slotR (j : Fin 16) : Rect S16x128x128 := Rect.unit ![j.val, 0, 0] S1x128x128.size (slot_inb j)
/-- row block `e` of the rounded operand, -/
abbrev blkR (e : Fin 16) : Rect S2048x128 := Rect.unit ![128 * e.val, 0] S128x128.size (blk_inb e)
/-- column block `j` of the assembled rows, -/
abbrev colR (j : Fin 16) : Rect S128x2048 := Rect.unit ![0, 128 * j.val] S128x128.size (col_inb j)
/-- slot `k` of the weight buffer, -/
abbrev wslotR (k : Fin 8) : Rect S8x256x2048 := Rect.unit ![k.val, 0, 0] S1x256x2048.size (wslot_inb k)
/-- row block `k` of the weight, -/
abbrev wrowR (k : Fin 8) : Rect S2048x2048 := Rect.unit ![256 * k.val, 0] S256x2048.size (wrow_inb k)
/-- and the two column blocks of the assembled rows that chunk `k` multiplies. -/
abbrev chunkR (k : Fin 8) : Rect S128x2048 := Rect.unit ![0, 256 * k.val] S128x256.size (chunk_inb k)

/-- The ends of the transfers. -/
abbrev slotM (j : Fin 16) : Memref sig .tc .vmem S128x128 .bf16 :=
  (gV.slice (slotR j) (fun _ => rfl)).squeeze S128x128 squeezes_S1x128x128_S128x128
abbrev blkM (e : Fin 16) : Memref sig .tc .vmem S128x128 .bf16 := bV.slice (blkR e) (fun _ => rfl)
abbrev wslotM (k : Fin 8) : Memref sig .tc .vmem S256x2048 .f32 :=
  (wV.slice (wslotR k) (fun _ => rfl)).squeeze S256x2048 squeezes_S1x256x2048_S256x2048
abbrev wrowM (k : Fin 8) : Memref sig .tc .hbm S256x2048 .f32 := wA.slice (wrowR k) (fun _ => rfl)

/-! ## Their element sets -/

theorem slot_set (j : Fin 16) : (slotM j).view.set = (slotR j).set :=
  (View.set_reshape _ _).trans (View.set_slice_whole cc0_scratch2 (slotR j))
theorem wslot_set (k : Fin 8) : (wslotM k).view.set = (wslotR k).set :=
  (View.set_reshape _ _).trans (View.set_slice_whole cc0_scratch4 (wslotR k))

theorem mem_slot {j : Fin 16} {i : S16x128x128.Idx} : i ∈ (slotM j).view.set ↔ (i 0 : Nat) = j.val := by
  rw [slot_set, Rect.mem_set_unit]
  constructor
  · intro h; have h0 := h 0
    have e1 : (![j.val, 0, 0] : Fin 3 → Nat) 0 = j.val := rfl
    have e2 : S1x128x128.size 0 = 1 := rfl
    omega
  · intro h a
    have h1 : (i 1).val < 128 := (i 1).isLt
    have h2 : (i 2).val < 128 := (i 2).isLt
    match a with
    | ⟨0, _⟩ => show j.val ≤ (i 0).val ∧ (i 0).val < j.val + 1; omega
    | ⟨1, _⟩ => show 0 ≤ (i 1).val ∧ (i 1).val < 0 + 128; omega
    | ⟨2, _⟩ => show 0 ≤ (i 2).val ∧ (i 2).val < 0 + 128; omega

theorem mem_slotR {j : Fin 16} {i : S16x128x128.Idx} : i ∈ ((gV : Memref sig .tc .vmem S16x128x128 .bf16).view.slice (slotR j)).set ↔ (i 0 : Nat) = j.val := by
  rw [← mem_slot (j := j), slot_set]
  exact Iff.of_eq (congrArg (i ∈ ·) (View.set_slice_whole cc0_scratch2 (slotR j)))

theorem mem_blk {e : Fin 16} {i : S2048x128.Idx} : i ∈ (blkM e).view.set ↔ (i 0 : Nat) / 128 = e.val := by
  refine (Iff.of_eq (congrArg (i ∈ ·) (View.set_slice_whole cc0_scratch1 (blkR e)))).trans (Rect.mem_set_unit.trans ?_)
  constructor
  · intro h; have h0 : 128 * e.val ≤ (i 0).val ∧ (i 0).val < 128 * e.val + 128 := h 0
    omega
  · intro h a
    have h1 : (i 1).val < 128 := (i 1).isLt
    match a with
    | ⟨0, _⟩ => show 128 * e.val ≤ (i 0).val ∧ (i 0).val < 128 * e.val + 128; omega
    | ⟨1, _⟩ => show 0 ≤ (i 1).val ∧ (i 1).val < 0 + 128; omega

theorem mem_col {j : Fin 16} {i : S128x2048.Idx} : i ∈ ((rV : Memref sig .tc .vmem S128x2048 .bf16).view.slice (colR j)).set ↔ (i 1 : Nat) / 128 = j.val := by
  refine (Iff.of_eq (congrArg (i ∈ ·) (View.set_slice_whole cc0_scratch3 (colR j)))).trans (Rect.mem_set_unit.trans ?_)
  constructor
  · intro h; have h0 : 128 * j.val ≤ (i 1).val ∧ (i 1).val < 128 * j.val + 128 := h 1
    omega
  · intro h a
    have h1 : (i 0).val < 128 := (i 0).isLt
    match a with
    | ⟨0, _⟩ => show 0 ≤ (i 0).val ∧ (i 0).val < 0 + 128; omega
    | ⟨1, _⟩ => show 128 * j.val ≤ (i 1).val ∧ (i 1).val < 128 * j.val + 128; omega

theorem mem_chunk {k : Fin 8} {i : S128x2048.Idx} (h : i ∈ (chunkR k).set) : (i 1 : Nat) / 256 = k.val := by
  have h0 : 256 * k.val ≤ (i 1).val ∧ (i 1).val < 256 * k.val + 256 := (Rect.mem_set_unit.mp h) 1
  omega

theorem mem_wslot {k : Fin 8} {i : S8x256x2048.Idx} : i ∈ (wslotM k).view.set ↔ (i 0 : Nat) = k.val := by
  rw [wslot_set, Rect.mem_set_unit]
  constructor
  · intro h; have h0 : k.val ≤ (i 0).val ∧ (i 0).val < k.val + 1 := h 0
    omega
  · intro h a
    have h1 : (i 1).val < 256 := (i 1).isLt
    have h2 : (i 2).val < 2048 := (i 2).isLt
    match a with
    | ⟨0, _⟩ => show k.val ≤ (i 0).val ∧ (i 0).val < k.val + 1; omega
    | ⟨1, _⟩ => show 0 ≤ (i 1).val ∧ (i 1).val < 0 + 256; omega
    | ⟨2, _⟩ => show 0 ≤ (i 2).val ∧ (i 2).val < 0 + 2048; omega

theorem mem_wslotR {k : Fin 8} {i : S8x256x2048.Idx} : i ∈ ((wV : Memref sig .tc .vmem S8x256x2048 .f32).view.slice (wslotR k)).set ↔ (i 0 : Nat) = k.val := by
  rw [← mem_wslot (k := k), wslot_set]
  exact Iff.of_eq (congrArg (i ∈ ·) (View.set_slice_whole cc0_scratch4 (wslotR k)))

theorem mem_wrow {k : Fin 8} {i : S2048x2048.Idx} : i ∈ (wrowM k).view.set ↔ (i 0 : Nat) / 256 = k.val := by
  refine (Iff.of_eq (congrArg (i ∈ ·) (View.set_slice_whole main_arg1 (wrowR k)))).trans (Rect.mem_set_unit.trans ?_)
  constructor
  · intro h; have h0 : 256 * k.val ≤ (i 0).val ∧ (i 0).val < 256 * k.val + 256 := h 0
    omega
  · intro h a
    have h1 : (i 1).val < 2048 := (i 1).isLt
    match a with
    | ⟨0, _⟩ => show 256 * k.val ≤ (i 0).val ∧ (i 0).val < 256 * k.val + 256; omega
    | ⟨1, _⟩ => show 0 ≤ (i 1).val ∧ (i 1).val < 0 + 2048; omega

/-! ## The contents -/

variable (m : (ℓ : Loc nD τ sig) → Buf (Elt F) ℓ)

/-- Device `c`'s columns of the operand, its copy of the weight, -/
def X (c : Dev nD) : S2048x128.Idx → Elt F .f32 := m ((c : Thread nD τ).loc main_arg0)
def Wt (c : Dev nD) : S2048x2048.Idx → Elt F .f32 := m ((c : Thread nD τ).loc main_arg1)

/-- its columns rounded, -/
def XB (c : Dev nD) : S2048x128.Idx → Elt F .bf16 := k0_pay1 (X m c)

theorem wrow_lt (k : Fin 8) (a : Fin 256) : 256 * k.val + a.val < 2048 := by omega
theorem row_lt (c : Fin 16) (a : Fin 128) : 128 * c.val + a.val < 2048 := by omega

/-- what its gathered buffer holds when all has arrived: in slot `j`, device `j`'s row block `c`; -/
def GAT (c : Dev nD) : S16x128x128.Idx → Elt F .bf16 := fun i =>
  XB m (i 0 : Fin 16) (ix2 (⟨128 * c.val + (i 1 : Fin 128).val, row_lt c (i 1)⟩ : Fin 2048) (i 2 : Fin 128))

/-- the rows assembled from it, the slots side by side; -/
def ROW (c : Dev nD) : S128x2048.Idx → Elt F .bf16 := fun i =>
  GAT m c (ix3 (⟨(i 1 : Fin 2048).val / 128, Nat.div_lt_of_lt_mul (i 1 : Fin 2048).isLt⟩ : Fin 16) (i 0 : Fin 128)
    (⟨(i 1 : Fin 2048).val % 128, Nat.mod_lt _ (by decide)⟩ : Fin 128))

/-- the weight buffer after its eight copies. -/
def WB (c : Dev nD) : S8x256x2048.Idx → Elt F .f32 := fun i =>
  Wt m c (ix2 (⟨256 * (i 0 : Fin 8).val + (i 1 : Fin 256).val, wrow_lt (i 0) (i 1)⟩ : Fin 2048) (i 2 : Fin 2048))

/-! ## Where the pieces' indices lie -/

/-- An index of a unit-stride rectangle lies at the offset plus itself. -/
theorem unit_emb {s : Shape} (off size : Fin s.rank → Nat) (inb) (j : (Rect.unit off size inb).shape.Idx) (a : Fin s.rank) :
    ((Rect.unit off size inb).emb j a : Nat) = off a + j a := by
  rw [Rect.emb_apply]; show off a + 1 * (j a : Nat) = _; omega

theorem slot_emb (j : Fin 16) (x : S128x128.Idx) : (slotM j).view.emb x = ix3 j (x 0 : Fin 128) (x 1 : Fin 128) := by
  show (slotR j).emb (Shape.reshapeEquiv _ x) = _
  have e : Shape.reshapeEquiv (s := S1x128x128) (s' := S128x128) squeezes_S1x128x128_S128x128.numel_eq x
      = ix3 (0 : Fin 1) (x 0 : Fin 128) (x 1 : Fin 128) :=
    Shape.reshapeEquiv_eq_of_rowMajor _ (by
      refine (Shape.rowMajor_val_three (d := ![1, 128, 128]) _).trans (Eq.trans ?_ (Shape.rowMajor_val_two (d := ![128, 128]) _).symm)
      show (0 * 128 + (x 0).val) * 128 + (x 1).val = (x 0).val * 128 + (x 1).val
      omega)
  funext a
  refine Fin.ext ?_
  refine (unit_emb _ _ _ _ a).trans ?_
  refine (congrArg (fun z => (![j.val, 0, 0] : Fin 3 → Nat) a + (z a : Nat)) e).trans ?_
  match a with
  | ⟨0, _⟩ => show j.val + 0 = j.val; omega
  | ⟨1, _⟩ => show 0 + (x 0).val = (x 0).val; omega
  | ⟨2, _⟩ => show 0 + (x 1).val = (x 1).val; omega

theorem blk_emb (e : Fin 16) (x : S128x128.Idx) :
    (blkM e).view.emb x = ix2 (⟨128 * e.val + (x 0 : Fin 128).val, row_lt e (x 0)⟩ : Fin 2048) (x 1 : Fin 128) := by
  funext a
  refine Fin.ext ?_
  refine (unit_emb _ _ _ _ a).trans ?_
  match a with
  | ⟨0, _⟩ => rfl
  | ⟨1, _⟩ => show 0 + (x 1).val = (x 1).val; omega

theorem wslot_emb (k : Fin 8) (x : S256x2048.Idx) : (wslotM k).view.emb x = ix3 k (x 0 : Fin 256) (x 1 : Fin 2048) := by
  show (wslotR k).emb (Shape.reshapeEquiv _ x) = _
  have e : Shape.reshapeEquiv (s := S1x256x2048) (s' := S256x2048) squeezes_S1x256x2048_S256x2048.numel_eq x
      = ix3 (0 : Fin 1) (x 0 : Fin 256) (x 1 : Fin 2048) :=
    Shape.reshapeEquiv_eq_of_rowMajor _ (by
      refine (Shape.rowMajor_val_three (d := ![1, 256, 2048]) _).trans (Eq.trans ?_ (Shape.rowMajor_val_two (d := ![256, 2048]) _).symm)
      show (0 * 256 + (x 0).val) * 2048 + (x 1).val = (x 0).val * 2048 + (x 1).val
      omega)
  funext a
  refine Fin.ext ?_
  refine (unit_emb _ _ _ _ a).trans ?_
  refine (congrArg (fun z => (![k.val, 0, 0] : Fin 3 → Nat) a + (z a : Nat)) e).trans ?_
  match a with
  | ⟨0, _⟩ => show k.val + 0 = k.val; omega
  | ⟨1, _⟩ => show 0 + (x 0).val = (x 0).val; omega
  | ⟨2, _⟩ => show 0 + (x 1).val = (x 1).val; omega

theorem wrow_emb (k : Fin 8) (x : S256x2048.Idx) :
    (wrowM k).view.emb x = ix2 (⟨256 * k.val + (x 0 : Fin 256).val, wrow_lt k (x 0)⟩ : Fin 2048) (x 1 : Fin 2048) := by
  funext a
  refine Fin.ext ?_
  refine (unit_emb _ _ _ _ a).trans ?_
  match a with
  | ⟨0, _⟩ => rfl
  | ⟨1, _⟩ => show 0 + (x 1).val = (x 1).val; omega

/-! ## What lands -/

/-- Device `j`'s transfer of its row block `c` fills slot `j` of device `c` as `GAT` says. -/
theorem slot_landed (c j : Fin 16) (fd : S16x128x128.Idx → Elt F .bf16) :
    ∀ i ∈ (slotM j).view.set, (slotM j).view.write (Elt F) fd ((blkM c).view.read (Elt F) (XB m j)) Finset.univ i = GAT m c i := by
  intro i hi
  obtain ⟨x, -, rfl⟩ := Finset.mem_map.mp hi
  rw [View.write_emb_of_mem _ _ (Finset.mem_univ _), View.read_apply]
  show XB m j ((blkM c).view.emb x) = GAT m c ((slotM j).view.emb x)
  rw [blk_emb, slot_emb]; rfl

/-- The copy of the weight's row block `k` fills slot `k` as `WB` says. -/
theorem wslot_landed (c : Dev nD) (k : Fin 8) (fd : S8x256x2048.Idx → Elt F .f32) :
    ∀ i ∈ (wslotM k).view.set, (wslotM k).view.write (Elt F) fd ((wrowM k).view.read (Elt F) (Wt m c)) Finset.univ i = WB m c i := by
  intro i hi
  obtain ⟨x, -, rfl⟩ := Finset.mem_map.mp hi
  rw [View.write_emb_of_mem _ _ (Finset.mem_univ _), View.read_apply]
  show Wt m c ((wrowM k).view.emb x) = WB m c ((wslotM k).view.emb x)
  rw [wrow_emb, wslot_emb]; rfl

/-! ## What the vector operations move -/

/-- A slot as loaded and re-shaped to its block, -/
def slotVal (c : Dev nD) (j : Fin 16) : S128x128.Idx → Elt F .bf16 := fun x => GAT m c (ix3 j (x 0 : Fin 128) (x 1 : Fin 128))

theorem slot_load (f : S16x128x128.Idx → Elt F .bf16) (j : Fin 16) (c : Dev nD) (hf : ∀ i : S16x128x128.Idx, (i 0 : Nat) = j.val → f i = GAT m c i)
    (h : S1x128x128.ShapeCasts S128x128) :
    shapeCast S128x128 ((gV : Memref sig .tc .vmem S16x128x128 .bf16).view.readAt (Elt F) (slotR j).toLoadRect f) h = slotVal m c j := by
  funext x
  exact (congrArg f (slot_emb j x)).trans (hf (ix3 j (x 0 : Fin 128) (x 1 : Fin 128)) rfl)

/-- what a store of it to column block `j` leaves there, -/
theorem col_stored (f : S128x2048.Idx → Elt F .bf16) (j : Fin 16) (c : Dev nD) (i : S128x2048.Idx) :
    ((rV : Memref sig .tc .vmem S128x2048 .bf16).access (colR j)).write (Elt F) f (slotVal m c j) Finset.univ i
      = if (i 1 : Nat) / 128 = j.val then ROW m c i else f i := by
  by_cases hi : (i 1 : Nat) / 128 = j.val
  · rw [if_pos hi]
    have hm := mem_col.mpr hi
    obtain ⟨x, -, rfl⟩ := Finset.mem_map.mp hm
    have ha : ∀ a : Fin 2, ((colR j).emb x a : Nat) = (![0, 128 * j.val] : Fin 2 → Nat) a + (x a : Nat) :=
      fun a => unit_emb (s := S128x2048) ![0, 128 * j.val] S128x128.size (col_inb j) x a
    rw [View.write_emb_of_mem _ _ (Finset.mem_univ _)]
    show GAT m c (ix3 j (x 0 : Fin 128) (x 1 : Fin 128)) = ROW m c ((colR j).emb x)
    unfold ROW
    have h0 : ((colR j).emb x 0 : Nat) = (x 0 : Nat) := (ha 0).trans (Nat.zero_add _)
    have h1 : ((colR j).emb x 1 : Nat) = 128 * j.val + (x 1 : Nat) := ha 1
    have hx : (x 1 : Nat) < 128 := (x 1).isLt
    refine congrArg _ (funext fun a => Fin.ext ?_)
    match a with
    | ⟨0, _⟩ => show j.val = ((colR j).emb x 1 : Nat) / 128; omega
    | ⟨1, _⟩ => show (x 0 : Nat) = ((colR j).emb x 0 : Nat); omega
    | ⟨2, _⟩ => show (x 1 : Nat) = ((colR j).emb x 1 : Nat) % 128; omega
  · rw [if_neg hi]
    exact View.write_of_not_mem _ _ _ fun h => hi (mem_col.mp (View.setOn_subset_set _ _ h))

/-- and what storing device `c`'s own row block to its own slot leaves there. -/
theorem own_stored (f : S16x128x128.Idx → Elt F .bf16) (c : Fin 16) (h : S128x128.ShapeCasts S1x128x128) (i : S16x128x128.Idx) (hi : (i 0 : Nat) = c.val) :
    ((gV : Memref sig .tc .vmem S16x128x128 .bf16).access (slotR c)).write (Elt F) f
        (shapeCast S1x128x128 ((bV : Memref sig .tc .vmem S2048x128 .bf16).view.readAt (Elt F) (blkR c).toLoadRect (XB m c)) h) Finset.univ i
      = GAT m c i := by
  obtain ⟨x, -, rfl⟩ := Finset.mem_map.mp (mem_slotR.mpr hi)
  rw [View.write_emb_of_mem _ _ (Finset.mem_univ _)]
  have hx0 : (x 0 : Nat) = 0 := by have := (x 0).isLt; have e : S1x128x128.size 0 = 1 := rfl; have : (x 0 : Nat) < 1 := (x 0).isLt; omega
  show shapeCast S1x128x128 ((bV : Memref sig .tc .vmem S2048x128 .bf16).view.readAt (Elt F) (blkR c).toLoadRect (XB m c)) h x = GAT m c ((slotR c).emb x)
  refine (shapeCast_apply (s := S128x128) (t := S1x128x128) _ h x (ix2 (x 1 : Fin 128) (x 2 : Fin 128)) (by
      refine (Shape.rowMajor_val_two (d := ![128, 128]) _).trans (Eq.trans ?_ (Shape.rowMajor_val_three (d := ![1, 128, 128]) _).symm)
      show (x 1 : Nat) * 128 + (x 2 : Nat) = ((x 0 : Nat) * 128 + (x 1 : Nat)) * 128 + (x 2 : Nat)
      omega)).trans ?_
  show XB m c ((blkM c).view.emb (ix2 (x 1 : Fin 128) (x 2 : Fin 128))) = GAT m c ((slotR c).emb x)
  rw [blk_emb]
  have ha : ∀ a : Fin 3, ((slotR c).emb x a : Nat) = (![c.val, 0, 0] : Fin 3 → Nat) a + (x a : Nat) :=
    fun a => unit_emb (s := S16x128x128) ![c.val, 0, 0] S1x128x128.size (slot_inb c) x a
  have he : (slotR c).emb x = ix3 c (x 1 : Fin 128) (x 2 : Fin 128) := by
    funext a; refine Fin.ext ((ha a).trans ?_)
    match a with
    | ⟨0, _⟩ => show c.val + (x 0 : Nat) = c.val; omega
    | ⟨1, _⟩ => show 0 + (x 1 : Nat) = (x 1 : Nat); omega
    | ⟨2, _⟩ => show 0 + (x 2 : Nat) = (x 2 : Nat); omega
  rw [he]; rfl

end Cert.A2A

end
-- ==== Proof.Proto.lean ====
/-
The exchange's protocol: the semaphore cells of the sixteen devices, what each of their units is worth and what it hands
over, what each device owes at launch, and the levels that let it wait.

Every cell has one round. A device's barrier cell receives one unit from each of its fifteen peers, and peer `e`'s unit
hands over `e`'s slot of its gathered buffer that this device will write. A send cell's credit brings back the row block
it read, a receive cell's brings the slot another device's block has landed in, and a local copy's brings both its ends.
-/
module

public import proofs.«01_k».proof.Proof.Geometry
public import proofs.«01_k».proof.Proof.Gen.KernelIdeal.Launch

@[expose] public section

noncomputable section

namespace Cert.A2A

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resource algebra -/

abbrev UB : Type := URounds (GSem nD τ sig) (Fin 16)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

abbrev 𝒱₀ : Variants := Variants.none

variable (m : (ℓ : Loc nD τ sig) → Buf (Elt F) ℓ)

/-! ## Peers -/

/-- The device `d` places after `c`. -/
def peer (c : Dev nD) (d : Fin 16) : Dev nD := (show Fin 16 from c) + d

theorem peer_zero (c : Dev nD) : peer c 0 = c := by revert c; decide
theorem peer_ne (c : Dev nD) (d : Fin 16) (h : d ≠ 0) : peer c d ≠ c := by revert c d; decide
theorem peer_inj (c : Dev nD) : Function.Injective (peer c) := by revert c; decide
/-- The other devices are the ones one to fifteen places on. -/
theorem others_eq (c : Dev nD) : (Finset.univ : Finset (Fin 16)).erase c = ((Finset.univ : Finset (Fin 16)).erase 0).map ⟨peer c, peer_inj c⟩ := by
  revert c; decide

/-! ## The cells -/

abbrev barS : Sem sig := (SemArray.scalar (sig.barrier 0 rfl) : Sems sig S_).sem

abbrev lB : SemLoc sig := .reg barS
def lS (d : Fin 16) : SemLoc sig := .dma (⟨d.val, by omega⟩ : Fin 42)
def lR (j : Fin 16) : SemLoc sig := .dma (⟨16 + j.val, by omega⟩ : Fin 42)
def lW (k : Fin 8) : SemLoc sig := .dma (⟨32 + k.val, by omega⟩ : Fin 42)
def lX : SemLoc sig := .dma (⟨40, by decide⟩ : Fin 42)
def lO : SemLoc sig := .dma (⟨41, by decide⟩ : Fin 42)

/-- A cell of device `c`. -/
abbrev cell (c : Dev nD) (l : SemLoc sig) : GSem nD τ sig := ((c : Thread nD τ), l)

/-- What a block's, a weight slot's, the operand's and the result's transfer is worth. -/
def NB : ℕ := (slotM 0).view.dmaCredit
def NW : ℕ := (wslotM 0).view.dmaCredit
def NX : ℕ := (xV : Memref sig .tc .vmem S2048x128 .f32).view.dmaCredit
def NO : ℕ := (oA : Memref sig .tc .hbm S128x2048 .f32).view.dmaCredit
theorem NB_pos : 0 < NB := View.dmaCredit_pos _ (by decide)
theorem NW_pos : 0 < NW := View.dmaCredit_pos _ (by decide)
theorem NX_pos : 0 < NX := View.dmaCredit_pos _ (by decide)
theorem NO_pos : 0 < NO := View.dmaCredit_pos _ (by decide)

/-! ## The pieces owned -/

def slotP (c : Dev nD) (j : Fin 16) (f : S16x128x128.Idx → Elt F .bf16) : sProp 𝕄 :=
  (slotM j).view.loc (c : Thread nD τ) ↦[(slotM j).view.set]{fullShare} f
def blkP (c : Dev nD) (e : Fin 16) (f : S2048x128.Idx → Elt F .bf16) : sProp 𝕄 :=
  (blkM e).view.loc (c : Thread nD τ) ↦[(blkM e).view.set]{fullShare} f
def wslotP (c : Dev nD) (k : Fin 8) (f : S8x256x2048.Idx → Elt F .f32) : sProp 𝕄 :=
  (wslotM k).view.loc (c : Thread nD τ) ↦[(wslotM k).view.set]{fullShare} f
def wrowP (c : Dev nD) (k : Fin 8) (f : S2048x2048.Idx → Elt F .f32) : sProp 𝕄 :=
  (wrowM k).view.loc (c : Thread nD τ) ↦[(wrowM k).view.set]{fullShare} f
def xvP (c : Dev nD) (f : S2048x128.Idx → Elt F .f32) : sProp 𝕄 :=
  (xV : Memref sig .tc .vmem S2048x128 .f32).view.loc (c : Thread nD τ) ↦[(xV : Memref sig .tc .vmem S2048x128 .f32).view.set]{fullShare} f
def xaP (c : Dev nD) (f : S2048x128.Idx → Elt F .f32) : sProp 𝕄 :=
  (xA : Memref sig .tc .hbm S2048x128 .f32).view.loc (c : Thread nD τ) ↦[(xA : Memref sig .tc .hbm S2048x128 .f32).view.set]{fullShare} f
def yvP (c : Dev nD) (f : S128x2048.Idx → Elt F .f32) : sProp 𝕄 :=
  (yV : Memref sig .tc .vmem S128x2048 .f32).view.loc (c : Thread nD τ) ↦[(yV : Memref sig .tc .vmem S128x2048 .f32).view.set]{fullShare} f
def oaP (c : Dev nD) (f : S128x2048.Idx → Elt F .f32) : sProp 𝕄 :=
  (oA : Memref sig .tc .hbm S128x2048 .f32).view.loc (c : Thread nD τ) ↦[(oA : Memref sig .tc .hbm S128x2048 .f32).view.set]{fullShare} f
def rvP (c : Dev nD) (f : S128x2048.Idx → Elt F .bf16) : sProp 𝕄 :=
  (rV : Memref sig .tc .vmem S128x2048 .bf16).view.loc (c : Thread nD τ) ↦[(rV : Memref sig .tc .vmem S128x2048 .bf16).view.set]{fullShare} f
def bvP (c : Dev nD) (f : S2048x128.Idx → Elt F .bf16) : sProp 𝕄 :=
  (bV : Memref sig .tc .vmem S2048x128 .bf16).view.loc (c : Thread nD τ) ↦[(bV : Memref sig .tc .vmem S2048x128 .bf16).view.set]{fullShare} f

section Storable
omit [FloatOps F]
instance slotP_storable (c j) (f) : BI.Storable (upEmb : UEmb _ 𝕄) (slotP (F := F) c j f) := by unfold slotP; infer_instance
instance blkP_storable (c j) (f) : BI.Storable (upEmb : UEmb _ 𝕄) (blkP (F := F) c j f) := by unfold blkP; infer_instance
instance wslotP_storable (c k) (f) : BI.Storable (upEmb : UEmb _ 𝕄) (wslotP (F := F) c k f) := by unfold wslotP; infer_instance
instance wrowP_storable (c k) (f) : BI.Storable (upEmb : UEmb _ 𝕄) (wrowP (F := F) c k f) := by unfold wrowP; infer_instance
instance xvP_storable (c) (f) : BI.Storable (upEmb : UEmb _ 𝕄) (xvP (F := F) c f) := by unfold xvP; infer_instance
instance xaP_storable (c) (f) : BI.Storable (upEmb : UEmb _ 𝕄) (xaP (F := F) c f) := by unfold xaP; infer_instance
instance yvP_storable (c) (f) : BI.Storable (upEmb : UEmb _ 𝕄) (yvP (F := F) c f) := by unfold yvP; infer_instance
instance oaP_storable (c) (f) : BI.Storable (upEmb : UEmb _ 𝕄) (oaP (F := F) c f) := by unfold oaP; infer_instance
end Storable

/-! ## What the kernel computes -/

/-- The two column blocks of the assembled rows that chunk `k` multiplies, and its rows of the weight, as loaded. -/
def xChunk (c : Dev nD) (k : Fin 8) : FVec F S128x256 .bf16 :=
  (rV : Memref sig .tc .vmem S128x2048 .bf16).view.readAt (Elt F) (chunkR k).toLoadRect (ROW m c)
def wChunk (c : Dev nD) (k : Fin 8) : FVec F S1x256x2048 .f32 :=
  (wV : Memref sig .tc .vmem S8x256x2048 .f32).view.readAt (Elt F) (wslotR k).toLoadRect (WB m c)

/-- The sum of the eight chunks' products, in the kernel's order: after chunk 1, chunk 2, chunk 4, chunk 5 and chunk 7. -/
abbrev acc1 (c : Dev nD) : FVec F S128x2048 .f32 := k0_pay9 (k0_pay6 (wChunk m c 0)) (xChunk m c 0) (wChunk m c 1) (xChunk m c 1)
abbrev acc2 (c : Dev nD) : FVec F S128x2048 .f32 := k0_pay12 (acc1 m c) (wChunk m c 2) (xChunk m c 2)
abbrev acc4 (c : Dev nD) : FVec F S128x2048 .f32 := k0_pay17 (acc2 m c) (wChunk m c 3) (xChunk m c 3) (wChunk m c 4) (xChunk m c 4)
abbrev acc5 (c : Dev nD) : FVec F S128x2048 .f32 := k0_pay20 (acc4 m c) (wChunk m c 5) (xChunk m c 5)
abbrev acc7 (c : Dev nD) : FVec F S128x2048 .f32 := k0_pay25 (acc5 m c) (wChunk m c 6) (xChunk m c 6) (wChunk m c 7) (xChunk m c 7)
/-- The result on device `c`. -/
def outAt (c : Dev nD) : S128x2048.Idx → Elt F .f32 := k0_pay27 (acc7 m c) k0_pay26

/-! ## The schedule -/

def dutOf (c : Dev nD) : SemLoc sig → Finset (Fin 16)
  | .reg _ => Finset.univ.erase c
  | .dma s => if s.val = 0 then ∅ else if s.val = 16 + c.val then ∅ else {0}
def amtOf : SemLoc sig → ℕ
  | .reg _ => 1
  | .dma s => if s.val < 32 then NB else if s.val < 40 then NW else if s.val = 40 then NX else NO
def payOf (c : Dev nD) : SemLoc sig → Fin 16 → sProp 𝕄
  | .reg _, e => iprop(∃ f, slotP e c f)
  | .dma s, _ =>
    if h : s.val < 16 then blkP c (peer c ⟨s.val, h⟩) (XB m c)
    else if h : s.val < 32 then slotP c ⟨s.val - 16, by omega⟩ (GAT m c)
    else if h : s.val < 40 then iprop(wslotP c ⟨s.val - 32, by omega⟩ (WB m c) ∗ wrowP c ⟨s.val - 32, by omega⟩ (Wt m c))
    else if s.val = 40 then iprop(xvP c (X m c) ∗ xaP c (X m c))
    else iprop(oaP c (outAt m c) ∗ yvP c (outAt m c))

def sched : Rounds.Schedule (GSem nD τ sig) (Fin 16) 𝕄 where
  duties g r := if r = 0 ∧ g.1.2 = .tc then dutOf g.1.1 g.2 else ∅
  unitless _ := False
  amount g _ _ := amtOf g.2
  payload g _ d := payOf m g.1.1 g.2 d
  amount_pos g _ _ _ := by
    show 0 < amtOf g.2
    rcases g.2 with s | s
    · exact Nat.one_pos
    · unfold amtOf; dsimp only
      (repeat' split)
      · exact NB_pos
      · exact NW_pos
      · exact NX_pos
      · exact NO_pos

instance sched_storable (g : GSem nD τ sig) (r : ℕ) (d : Fin 16) :
    BI.Storable (upEmb : UEmb _ 𝕄) ((sched (F := F) m).payload g r d) := by
  show BI.Storable upEmb (payOf m g.1.1 g.2 d)
  rcases g.2 with s | s
  · unfold payOf; infer_instance
  · unfold payOf; dsimp only; (repeat' split) <;> infer_instance

theorem duties_cell (c : Dev nD) (l : SemLoc sig) : (sched (F := F) m).duties (cell c l) 0 = dutOf c l := by
  dsimp only [sched]; exact if_pos ⟨rfl, rfl⟩
theorem duties_later (g : GSem nD τ sig) : ∀ r, 1 ≤ r → (sched (F := F) m).duties g r = ∅ :=
  fun r hr => by dsimp only [sched]; rw [if_neg fun h => by omega]
theorem amount_cell (c : Dev nD) (l : SemLoc sig) (d : Fin 16) : (sched (F := F) m).amount (cell c l) 0 d = amtOf l := rfl
theorem payload_cell (c : Dev nD) (l : SemLoc sig) (d : Fin 16) : (sched (F := F) m).payload (cell c l) 0 d = payOf m c l d := rfl

theorem dut_B (c : Dev nD) : dutOf c lB = Finset.univ.erase c := rfl
theorem dut_S (c : Dev nD) (d : Fin 16) (h : d ≠ 0) : dutOf c (lS d) = {0} := by
  unfold dutOf lS; dsimp only
  have hd : d.val ≠ 0 := fun e => h (Fin.ext e)
  have hd' := d.isLt
  rw [if_neg hd, if_neg (by omega)]
theorem dut_S0 (c : Dev nD) : dutOf c (lS 0) = ∅ := rfl
theorem dut_R (c : Dev nD) (j : Fin 16) (h : j ≠ c) : dutOf c (lR j) = {0} := by
  unfold dutOf lR; dsimp only
  have hj : j.val ≠ c.val := fun e => h (Fin.ext e)
  rw [if_neg (by omega), if_neg (by omega)]
theorem dut_R_self (c : Dev nD) : dutOf c (lR c) = ∅ := by
  unfold dutOf lR; dsimp only; rw [if_neg (by omega), if_pos rfl]
theorem dut_W (c : Dev nD) (k : Fin 8) : dutOf c (lW k) = {0} := by
  unfold dutOf lW; dsimp only
  have hc : c.val < 16 := c.isLt
  rw [if_neg (by omega), if_neg (by omega)]
theorem dut_X (c : Dev nD) : dutOf c lX = {0} := by
  unfold dutOf lX; dsimp only
  have hc : c.val < 16 := c.isLt
  rw [if_neg (by omega), if_neg (by omega)]
theorem dut_O (c : Dev nD) : dutOf c lO = {0} := by
  unfold dutOf lO; dsimp only
  have hc : c.val < 16 := c.isLt
  rw [if_neg (by omega), if_neg (by omega)]

theorem amt_B : amtOf lB = 1 := rfl
theorem amt_S (d : Fin 16) : amtOf (lS d) = NB := by unfold amtOf lS; dsimp only; rw [if_pos (by omega)]
theorem amt_R (d : Fin 16) : amtOf (lR d) = NB := by unfold amtOf lR; dsimp only; rw [if_pos (by omega)]
theorem amt_W (k : Fin 8) : amtOf (lW k) = NW := by unfold amtOf lW; dsimp only; rw [if_neg (by omega), if_pos (by omega)]
theorem amt_X : amtOf lX = NX := rfl
theorem amt_O : amtOf lO = NO := rfl

theorem pay_B (c e : Dev nD) : payOf (F := F) m c lB e = iprop(∃ f, slotP e c f) := rfl
theorem pay_S (c : Dev nD) (d e : Fin 16) : payOf (F := F) m c (lS d) e = blkP c (peer c d) (XB m c) := by
  unfold payOf lS; dsimp only; rw [dif_pos d.isLt]
theorem pay_R (c : Dev nD) (j e : Fin 16) : payOf (F := F) m c (lR j) e = slotP c j (GAT m c) := by
  unfold payOf lR; dsimp only; rw [dif_neg (by omega), dif_pos (by omega)]
  exact congrArg (fun i => slotP c i (GAT m c)) (Fin.ext (by dsimp only; omega))
theorem pay_W (c : Dev nD) (k : Fin 8) (e : Fin 16) : payOf (F := F) m c (lW k) e = iprop(wslotP c k (WB m c) ∗ wrowP c k (Wt m c)) := by
  unfold payOf lW; dsimp only; rw [dif_neg (by omega), dif_neg (by omega), dif_pos (by omega)]
  exact congrArg (fun i => iprop(wslotP c i (WB m c) ∗ wrowP c i (Wt m c))) (Fin.ext (by dsimp only; omega))
theorem pay_X (c : Dev nD) (e : Fin 16) : payOf (F := F) m c lX e = iprop(xvP c (X m c) ∗ xaP c (X m c)) := rfl
theorem pay_O (c : Dev nD) (e : Fin 16) : payOf (F := F) m c lO e = iprop(oaP c (outAt m c) ∗ yvP c (outAt m c)) := rfl

/-- A one-duty cell expects its one amount and its round pays the one payload. -/
theorem expect_one (c : Dev nD) (l : SemLoc sig) (h : dutOf c l = {0}) : (sched (F := F) m).expect (cell c l) 0 = amtOf l := by
  unfold Schedule.expect Schedule.amountOf; rw [duties_cell, h, Finset.sum_singleton, amount_cell]
theorem rest_one (c : Dev nD) (l : SemLoc sig) (h : dutOf c l = {0}) :
    bigSep ((sched (F := F) m).duties (cell c l) 0 \ ∅) (fun d => (sched (F := F) m).payload (cell c l) 0 d) = payOf m c l 0 := by
  rw [Finset.sdiff_empty, duties_cell, h, bigSep_singleton, payload_cell]
theorem expect_B (c : Dev nD) : (sched (F := F) m).expect (cell c lB) 0 = 15 := by
  unfold Schedule.expect Schedule.amountOf
  rw [duties_cell, dut_B, Finset.sum_congr rfl fun d _ => amount_cell m c lB d, Finset.sum_const, Finset.card_erase_of_mem (Finset.mem_univ _),
    Finset.card_univ]
  rfl
/-- The barrier's round pays each peer's slot for this device. -/
theorem rest_B (c : Dev nD) :
    bigSep ((sched (F := F) m).duties (cell c lB) 0 \ ∅) (fun d => (sched (F := F) m).payload (cell c lB) 0 d)
      = bigSep ((Finset.univ : Finset (Fin 16)).erase 0) (fun d => (iprop(∃ f, slotP (peer c d) c f) : sProp 𝕄)) := by
  rw [Finset.sdiff_empty, duties_cell, dut_B]
  exact (congrArg (fun s => bigSep s fun d => (sched (F := F) m).payload (cell c lB) 0 d) (others_eq c)).trans (bigSep_map _)

/-! ## What a device owes; the levels -/

/-- The distances from `t` on. -/
def from' (t : ℕ) : Finset (Fin 16) := Finset.univ.filter (t ≤ ·.val)
theorem from_step (d : Fin 16) : from' d.val = insert d (from' (d.val + 1)) := by revert d; decide
theorem from_notMem (d : Fin 16) : d ∉ from' (d.val + 1) := by revert d; decide
theorem from_one : from' 1 = (Finset.univ : Finset (Fin 16)).erase 0 := by decide

/-- The barrier units still owed from distance `t` on, and the blocks' credits. -/
def owB (c : Dev nD) (t : ℕ) : CellTallies nD τ sig Unit := ∑ d ∈ from' t, tallyAt (cell (peer c d) lB) () 1
def owR (c : Dev nD) (t : ℕ) : CellTallies nD τ sig Unit := ∑ d ∈ from' t, tallyAt (cell (peer c d) (lR c)) () NB
def O₀ (c : Dev nD) : CellTallies nD τ sig Unit := owR c 1 + owB c 1

theorem owB_step (c : Dev nD) (d : Fin 16) : owB c d.val = owB c (d.val + 1) + tallyAt (cell (peer c d) lB) () 1 := by
  unfold owB; rw [from_step, Finset.sum_insert (from_notMem d), add_comm]
theorem owR_step (c : Dev nD) (d : Fin 16) : owR c d.val = owR c (d.val + 1) + tallyAt (cell (peer c d) (lR c)) () NB := by
  unfold owR; rw [from_step, Finset.sum_insert (from_notMem d), add_comm]
theorem owB_end (c : Dev nD) : owB c 16 = 0 := by
  unfold owB; rw [show from' 16 = ∅ by decide, Finset.sum_empty]
theorem owR_end (c : Dev nD) : owR c 16 = 0 := by
  unfold owR; rw [show from' 16 = ∅ by decide, Finset.sum_empty]

def L (g : GSem nD τ sig) : Finset Unit := if g.1.2 = .tc then {()} else ∅
/-- Barrier cells at 1, receive cells at 2, everything else at 0. -/
def lv (g : GSem nD τ sig) (_ : Unit) : ℕ :=
  match g.2 with
  | .reg _ => 1
  | .dma s => if 16 ≤ s.val ∧ s.val < 32 then 2 else 0

theorem L_of_ne (g : GSem nD τ sig) (h : g.1.2 ≠ .tc) : L g = ∅ := if_neg h
theorem L_cell (c : Dev nD) (l : SemLoc sig) : L (cell c l) = {()} := if_pos rfl
theorem lv_R (c : Dev nD) (j : Fin 16) : lv (cell c (lR j)) () = 2 := by
  unfold lv lR; dsimp only; rw [if_pos (by omega)]

theorem owR_pos {c : Dev nD} {t : ℕ} {g : GSem nD τ sig} {u : Unit} (h : 0 < owR c t g u) : ∃ e, g = cell e (lR c) := by
  by_contra hn
  have : owR c t g u = 0 := by
    unfold owR
    rw [Finset.sum_apply, Finsupp.finset_sum_apply]
    refine Finset.sum_eq_zero fun d _ => ?_
    rw [tallyAt_apply, if_neg fun h' => hn ⟨_, h'.1⟩]
  omega

/-- Owing blocks' credits only, a device may wait on any of its cells below the receive cells. -/
theorem mayWait_owR (c : Dev nD) (l : SemLoc sig) (t : ℕ) (hl : lv (cell c l) () ≤ 1) :
    (levAts L lv : sProp 𝕄) ⊢ MayWait (c : Thread nD τ) l () (owR c t) :=
  MayOwe.of_cut (L := L) (lev := lv) 1 (fun p hp => by rw [Finset.mem_singleton.mp hp, L_cell]; exact Finset.mem_singleton_self _)
    (fun g u hg => by obtain ⟨e, rfl⟩ := owR_pos hg; rw [L_cell]; exact Finset.mem_singleton_self _)
    (fun p hp => by rw [Finset.mem_singleton.mp hp]; exact hl)
    (fun g u hg => by obtain ⟨e, rfl⟩ := owR_pos hg; rw [lv_R]; decide)

/-! ## The shared context -/

/-- Every cell's invariant, under the names `K` the launch allocated them at, with that it has reached round 0; the levels. -/
def CX (K : Dev nD × SemLoc sig → ℕ) : sProp 𝕄 :=
  iprop((bigSep Finset.univ fun p : Dev nD × SemLoc sig => iprop(cellInv ER (sched m) (K p) (cell p.1 p.2) ∗ reached ER (cell p.1 p.2) 0)) ∗ levAts L lv)

instance CX_persistent (K : Dev nD × SemLoc sig → ℕ) : BI.Persistent (CX (F := F) m K) := by unfold CX; infer_instance

theorem records_cell (K : Dev nD × SemLoc sig → ℕ) (p : Dev nD × SemLoc sig) :
    (bigSep Finset.univ fun p : Dev nD × SemLoc sig => (iprop(cellInv ER (sched m) (K p) (cell p.1 p.2) ∗ reached ER (cell p.1 p.2) 0) : sProp 𝕄))
      ⊢ iprop(cellInv ER (sched m) (K p) (cell p.1 p.2) ∗ reached ER (cell p.1 p.2) 0) := bigSep_elim (Finset.mem_univ p)
theorem CX_cell (K : Dev nD × SemLoc sig → ℕ) (c : Dev nD) (l : SemLoc sig) :
    CX (F := F) m K ⊢ iprop(cellInv ER (sched m) (K (c, l)) (cell c l) ∗ reached ER (cell c l) 0) := by
  unfold CX
  iintro ⟨H, -⟩
  iapply (records_cell m K (c, l)) $$ H
theorem CX_mayWait (K : Dev nD × SemLoc sig → ℕ) (c : Dev nD) (l : SemLoc sig) (t : ℕ) (hl : lv (cell c l) () ≤ 1) :
    CX (F := F) m K ⊢ MayWait (c : Thread nD τ) l () (owR c t) := by
  unfold CX
  iintro ⟨-, H⟩
  iapply (mayWait_owR c l t hl)
  iexact H

end Cert.A2A

end
-- ==== Proof.Steps.lean ====
/-
One lemma per kind of effect of the kernel: the start of a weight copy, a barrier signal, the barrier wait, a remote
transfer, the wait for a block with the move of its slot to its columns, the waits for a weight slot and for a
transfer's end. Each takes a device's state at one point of the kernel to its state at the next.
-/
module

public import proofs.«01_k».proof.Proof.Proto

@[expose] public section

noncomputable section

namespace Cert.A2A

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)
variable (K : Dev nD × SemLoc sig → ℕ)

/-- A program of device `c`'s, under the postcondition `Q`. -/
abbrev WP {α : Type} (c : Dev nD) (p : Prog (TpuEff nD τ sig (Elt F) Λ₀ .tc) α) (Q : α → sProp 𝕄) : sProp 𝕄 :=
  wp frame (wpE (defs₀ (F := F)) 𝒱₀ (c : Thread nD τ) none) Set.univ p Q

theorem WP_ret {α : Type} (c : Dev nD) (a : α) {Q : α → sProp 𝕄} : Q a ⊢ WP (F := F) c (.ret a) Q := by
  unfold WP
  rw [wp_ret]
  iintro H
  imodintro
  iexact H

theorem WP_bind {α β : Type} (c : Dev nD) (p : Prog (TpuEff nD τ sig (Elt F) Λ₀ .tc) α) (k : α → Prog (TpuEff nD τ sig (Elt F) Λ₀ .tc) β) {Q : β → sProp 𝕄} :
    WP (F := F) c p (fun a => WP c (k a) Q) ⊢ WP (F := F) c (p >>= k) Q := by
  unfold WP
  rw [wp_bind]

/-! ## A family done one by one -/

/-- The family that is `b` below `t` and `a` from `t` on. -/
def ph {n : ℕ} (t : ℕ) (a b : Fin n → sProp 𝕄) (d : Fin n) : sProp 𝕄 := if d.val < t then b d else a d
/-- The whole of it. -/
def fam {n : ℕ} (t : ℕ) (a b : Fin n → sProp 𝕄) : sProp 𝕄 := bigSep Finset.univ (ph t a b)

theorem fam_zero {n : ℕ} (a b : Fin n → sProp 𝕄) : fam 0 a b = bigSep Finset.univ a :=
  BI.bigSep_congr fun d _ => if_neg (Nat.not_lt_zero _)
theorem fam_all {n t : ℕ} (h : n ≤ t) (a b : Fin n → sProp 𝕄) : fam t a b = bigSep Finset.univ b :=
  BI.bigSep_congr fun d _ => if_pos (lt_of_lt_of_le d.isLt h)
theorem fam_one (a b : Fin 16 → sProp 𝕄) (h : a 0 = b 0) : fam 1 a b = bigSep Finset.univ a :=
  BI.bigSep_congr fun d _ => by
    unfold ph; split
    · have : d = 0 := Fin.ext (by rename_i hd; show d.val = 0; omega)
      rw [this, h]
    · rfl

theorem fam_pick {n : ℕ} (t : Fin n) (a b : Fin n → sProp 𝕄) : fam t.val a b = iprop(a t ∗ bigSep (Finset.univ.erase t) (ph t.val a b)) := by
  unfold fam; rw [BI.bigSep_univ_split t]
  exact congrArg (fun P => iprop(P ∗ bigSep (Finset.univ.erase t) (ph t.val a b))) (if_neg (Nat.lt_irrefl _))
theorem fam_next {n : ℕ} (t : Fin n) (a b : Fin n → sProp 𝕄) : fam (t.val + 1) a b = iprop(b t ∗ bigSep (Finset.univ.erase t) (ph t.val a b)) := by
  unfold fam; rw [BI.bigSep_univ_split t]
  have e : bigSep (Finset.univ.erase t) (ph (t.val + 1) a b) = bigSep (Finset.univ.erase t) (ph t.val a b) :=
    BI.bigSep_congr fun d hd => by
      have hne : d.val ≠ t.val := fun e => (Finset.mem_erase.mp hd).1 (Fin.ext e)
      unfold ph
      by_cases h : d.val < t.val
      · rw [if_pos h, if_pos (by omega)]
      · rw [if_neg h, if_neg (by omega)]
  rw [e]
  exact congrArg (fun P => iprop(P ∗ bigSep (Finset.univ.erase t) (ph t.val a b))) (if_pos (Nat.lt_succ_self _))

/-- An element that is done, taken out and put back. -/
theorem fam_done {n t : ℕ} (d : Fin n) (h : d.val < t) (a b : Fin n → sProp 𝕄) :
    fam t a b = iprop(b d ∗ bigSep (Finset.univ.erase d) (ph t a b)) := by
  unfold fam; rw [BI.bigSep_univ_split d]
  exact congrArg (fun P => iprop(P ∗ bigSep (Finset.univ.erase d) (ph t a b))) (if_pos h)

/-! ## What it owes, under some record of its waits -/

def OW (c : Dev nD) (O : CellTallies nD τ sig Unit) : sProp 𝕄 := iprop(∃ W, owes (c : Thread nD τ) O W)

/-! ## The weight's copies -/

def wTodo (c : Dev nD) (k : Fin 8) : sProp 𝕄 :=
  iprop(wrowP c k (Wt m c) ∗ (∃ f, wslotP c k f) ∗ dutyTok ER (cell c (lW k)) 0 0)
def wSent (c : Dev nD) (k : Fin 8) : sProp 𝕄 := cred (tallyAt (cell c (lW k)) () NW)
/-- Device `c` with the first `t` copies started. -/
def WC (c : Dev nD) (t : ℕ) : sProp 𝕄 := iprop(CX m K ∗ fam t (wTodo m c) (wSent c))

theorem step_wcopy (c : Dev nD) (t : Fin 8) (a b : ℕ) (ha : t.val = a) (hb : t.val + 1 = b) {src : Memref sig .tc .hbm S256x2048 .f32} {dst : Memref sig .tc .vmem S256x2048 .f32} {l : SemLoc sig}
    (e₁ : src = wrowM t) (e₂ : dst = wslotM t) (e₃ : l = lW t)
    {hsrc : src.view.WordExact} {hdst : dst.view.WordExact} {hsem : DmaTarget.Typed (nD := nD) .hbm l (DmaTarget.here (p := (.tc : Proc τ)) dst)}
    {α : Type} {Q : α → sProp 𝕄} {k : PUnit → Prog (TpuEff nD τ sig (Elt F) Λ₀ .tc) α} :
    WC m K c a ⊢ iprop((WC m K c b -∗ WP c (k ⟨⟩) Q)
      -∗ WP c (.op (.enqueueDma src (.here dst) l hsrc hdst hsem) k) Q) := by
  subst ha hb e₁ e₂ e₃
  unfold WC
  rw [fam_pick, fam_next]
  unfold wTodo wSent
  iintro ⟨#HX, ⟨Hrow, ⟨%f, Hslot⟩, Htok⟩, Hrest⟩ Hk
  ihave HI := (CX_cell m K c (lW t)) $$ HX
  icases HI with ⟨#HI, #Hr⟩
  unfold wrowP wslotP
  iapply (Rounds.wp_copy_pointsTo 𝒱₀ ER (sched m) (c : Thread nD τ) none (κ := K (c, lW t)) (r := 0) (d := 0)
      (by rw [duties_cell, dut_W]; exact Finset.mem_singleton_self _) () NW (by rfl) ((amount_cell m c (lW t) 0).trans (amt_W t))
      (by
        rw [payload_cell, pay_W]; unfold wslotP wrowP
        exact sep_mono_left (Entails.of_eq (pointsTo_congr (wslot_landed m c t f))))) $$ [Hrow Hslot Htok]
  · isplitr; · iexact HI
    isplitl [Hrow]; · iexact Hrow
    isplitl [Hslot]; · iexact Hslot
    isplitl [Htok]; · iexact Htok
    iexact Hr
  iintro Hc
  iapply Hk
  isplitr; · iexact HX
  isplitl [Hc]; · iexact Hc
  iexact Hrest

/-! ## The signals -/

def gTodo (c : Dev nD) (d : Fin 16) : sProp 𝕄 :=
  if d = 0 then iprop(emp) else iprop((∃ f, slotP c (peer c d) f) ∗ dutyTok ER (cell (peer c d) lB) 0 c)
/-- Device `c` with the peers less than `t` places on signalled. -/
def SG (c : Dev nD) (t : ℕ) : sProp 𝕄 :=
  iprop(CX m K ∗ OW c (owR c 1 + owB c t) ∗ fam t (gTodo c) fun _ => iprop(emp))

theorem step_signal (c : Dev nD) (t : Fin 16) (a b : ℕ) (ha : t.val = a) (hb : t.val + 1 = b) (ht : t ≠ 0) {n : Dev nD} (e : n = peer c t)
    {α : Type} {Q : α → sProp 𝕄} {k : PUnit → Prog (TpuEff nD τ sig (Elt F) Λ₀ .tc) α} :
    SG m K c a ⊢ iprop((SG m K c b -∗ WP c (k ⟨⟩) Q)
      -∗ WP c (.op (.semSignal (n : Thread nD τ) barS 1) k) Q) := by
  subst ha hb e
  unfold SG OW
  rw [fam_pick, fam_next]
  unfold gTodo
  rw [if_neg ht]
  iintro ⟨#HX, ⟨%W, HO⟩, ⟨Hslot, Htok⟩, Hrest⟩ Hk
  ihave HI := (CX_cell m K (peer c t) lB) $$ HX
  icases HI with ⟨#HI, #Hr⟩
  iapply (Rounds.wp_signal 𝒱₀ ER (sched m) (c : Thread nD τ) none (dst := (peer c t : Thread nD τ)) (κ := K (peer c t, lB)) (r := 0) (d := c)
      (by
        refine (Finset.ext_iff.mp (duties_cell m (peer c t) lB) c).mpr ?_
        rw [dut_B]; exact Finset.mem_erase.mpr ⟨(peer_ne c t ht).symm, Finset.mem_univ _⟩)
      (show (sched (F := F) m).amount (cell (peer c t) lB) 0 c = 1 from rfl) () (O₀ := owR c 1 + owB c t.val) (owR c 1 + owB c (t.val + 1)) (by rw [owB_step, add_assoc])) $$ [HO Hslot Htok]
  · isplitr; · iexact HI
    isplitl [HO]; · iexact HO
    isplitl [Htok]; · iexact Htok
    isplitl [Hslot]; · iapply (Entails.of_eq (show iprop(∃ f, slotP c (peer c t) f) = (sched (F := F) m).payload (cell (peer c t) lB) 0 c from rfl)); iexact Hslot
    iexact Hr
  iintro HO
  iapply Hk
  isplitr; · iexact HX
  isplitl [HO]; · iexists W; iexact HO
  isplitr; · iempintro
  iexact Hrest

/-! ## Waits -/

/-- A wait for a one-duty cell's round, owing only blocks' credits: its payload. -/
theorem step_wait (c : Dev nD) (l : SemLoc sig) (t N : ℕ) (hd : dutOf c l = {0}) (hN : amtOf l = N) (hl : lv (cell c l) () ≤ 1 ∨ owR c t = 0)
    {w : TpuEff nD τ sig (Elt F) Λ₀ .tc PUnit} {N' : ℕ}
    (hw : ∀ Kt : PUnit → sProp 𝕄, wpE (defs₀ (F := F)) 𝒱₀ (c : Thread nD τ) none Set.univ w Kt = waitSpec (c : Thread nD τ) Set.univ l N' Kt) (hN' : N' = N)
    {α : Type} {Q : α → sProp 𝕄} {k : PUnit → Prog (TpuEff nD τ sig (Elt F) Λ₀ .tc) α} :
    iprop(CX m K ∗ OW c (owR c t) ∗ cred (tallyAt (cell c l) () N) ∗ atPos ER (cell c l) 0 ∅ 0)
      ⊢ iprop(((OW c (owR c t) ∗ atPos ER (cell c l) 1 ∅ 0 ∗ payOf m c l 0) -∗ WP c (k ⟨⟩) Q) -∗ WP c (.op w k) Q) := by
  subst hN'
  unfold OW
  iintro ⟨#HX, ⟨%W, HO⟩, Hc, Hat⟩ Hk
  ihave HI := (CX_cell m K c l) $$ HX
  icases HI with ⟨#HI, -⟩
  iapply (Rounds.wp_wait_rest_token 𝒱₀ ER (sched m) (c : Thread nD τ) none (κ := K (c, l)) hw (Set.mem_univ _) () (O := owR c t) (W := W)
      (R := 0) (m := 0) (T := ∅) ((Nat.zero_add _).trans ((expect_one m c l hd).trans hN).symm)) $$ [Hc HO Hat]
  · isplitr; · iexact HI
    isplitl [Hc]; · iexact Hc
    isplitl [HO]; · iexact HO
    isplitr
    · rcases hl with hl | hl
      · iapply (CX_mayWait m K c l t hl); iexact HX
      · rw [hl, MayWait_zero]; iempintro
    iexact Hat
  iintro ⟨HO, Hat, -, Hpay⟩
  iapply Hk
  isplitl [HO]; · iexists _; iexact HO
  isplitl [Hat]; · iexact Hat
  iapply (Entails.of_eq (rest_one m c l hd)); iexact Hpay

/-- The barrier wait: each peer's slot for this device. -/
theorem step_barrier (c : Dev nD) {α : Type} {Q : α → sProp 𝕄} {k : PUnit → Prog (TpuEff nD τ sig (Elt F) Λ₀ .tc) α} :
    iprop(CX m K ∗ OW c (owR c 1) ∗ cred (tallyAt (cell c lB) () 15) ∗ atPos ER (cell c lB) 0 ∅ 0)
      ⊢ iprop(((OW c (owR c 1) ∗ atPos ER (cell c lB) 1 ∅ 0
            ∗ bigSep ((Finset.univ : Finset (Fin 16)).erase 0) (fun d => (iprop(∃ f, slotP (peer c d) c f) : sProp 𝕄))) -∗ WP c (k ⟨⟩) Q)
          -∗ WP c (.op (.semWait barS 15) k) Q) := by
  unfold OW
  iintro ⟨#HX, ⟨%W, HO⟩, Hc, Hat⟩ Hk
  ihave HI := (CX_cell m K c lB) $$ HX
  icases HI with ⟨#HI, -⟩
  iapply (Rounds.wp_wait_rest_token 𝒱₀ ER (sched m) (c : Thread nD τ) none (κ := K (c, lB)) (sm := lB) (k' := 15)
      (wpE_semWait_eq 𝒱₀ (c : Thread nD τ) none Set.univ) (Set.mem_univ _) () (O := owR c 1) (W := W)
      (R := 0) (m := 0) (T := ∅) ((Nat.zero_add 15).trans (expect_B m c).symm)) $$ [Hc HO Hat]
  · isplitr; · iexact HI
    isplitl [Hc]; · iexact Hc
    isplitl [HO]; · iexact HO
    isplitr; · iapply (CX_mayWait m K c lB 1 (le_refl _)); iexact HX
    iexact Hat
  iintro ⟨HO, Hat, -, Hpay⟩
  iapply Hk
  isplitl [HO]; · iexists _; iexact HO
  isplitl [Hat]; · iexact Hat
  iapply (Entails.of_eq (rest_B m c)); iexact Hpay

/-! ## The transfers -/

def sTodo (c : Dev nD) (d : Fin 16) : sProp 𝕄 :=
  if d = 0 then iprop(emp) else
    iprop(blkP c (peer c d) (XB m c) ∗ (∃ f, slotP (peer c d) c f) ∗ dutyTok ER (cell c (lS d)) 0 0 ∗ dutyTok ER (cell (peer c d) (lR c)) 0 0)
def sSent (c : Dev nD) (d : Fin 16) : sProp 𝕄 := if d = 0 then iprop(emp) else cred (tallyAt (cell c (lS d)) () NB)
/-- Device `c` with the transfers to the peers less than `t` places on started. -/
def SD (c : Dev nD) (t : ℕ) : sProp 𝕄 := iprop(CX m K ∗ OW c (owR c t) ∗ fam t (sTodo m c) (sSent c))

theorem step_send (c : Dev nD) (t : Fin 16) (a b : ℕ) (ha : t.val = a) (hb : t.val + 1 = b) (ht : t ≠ 0) {n : Dev nD} (e : n = peer c t)
    {o₆ : Fin 2 → ℕ} (i₆ : ∀ a, o₆ a + S128x128.size a ≤ S2048x128.size a) (h₆ : o₆ = ![128 * (peer c t).val, 0])
    {o₅ : Fin 3 → ℕ} (i₅ : ∀ a, o₅ a + S1x128x128.size a ≤ S16x128x128.size a) (h₅ : o₅ = ![c.val, 0, 0])
    {lo lr : SemLoc sig} (e₁ : lo = lS t) (e₂ : lr = lR c) {hsc}
    {hsrc : (bV.slice (Rect.unit (s := S2048x128) o₆ S128x128.size i₆) (fun _ => rfl)).view.WordExact}
    {hdst : ((gV.slice (Rect.unit (s := S16x128x128) o₅ S1x128x128.size i₅) (fun _ => rfl)).squeeze S128x128 squeezes_S1x128x128_S128x128).view.WordExact}
    {hsem : DmaTarget.Typed .vmem lr (.remote (Dev.tc n : Thread nD τ)
      ((gV.slice (Rect.unit (s := S16x128x128) o₅ S1x128x128.size i₅) (fun _ => rfl)).squeeze S128x128 squeezes_S1x128x128_S128x128) lo hsc)}
    {α : Type} {Q : α → sProp 𝕄} {k : PUnit → Prog (TpuEff nD τ sig (Elt F) Λ₀ .tc) α} :
    SD m K c a ⊢ iprop((SD m K c b -∗ WP c (k ⟨⟩) Q)
      -∗ WP c (.op (.enqueueDma (bV.slice (Rect.unit (s := S2048x128) o₆ S128x128.size i₆) (fun _ => rfl))
          (.remote (Dev.tc n : Thread nD τ)
            ((gV.slice (Rect.unit (s := S16x128x128) o₅ S1x128x128.size i₅) (fun _ => rfl)).squeeze S128x128 squeezes_S1x128x128_S128x128) lo hsc)
          lr hsrc hdst hsem) k) Q) := by
  subst ha hb e h₆ h₅ e₁ e₂
  unfold SD OW
  rw [fam_pick, fam_next]
  unfold sTodo sSent
  rw [if_neg ht, if_neg ht]
  iintro ⟨#HX, ⟨%W, HO⟩, ⟨Hblk, ⟨%f, Hslot⟩, Hts, Htr⟩, Hrest⟩ Hk
  ihave HI := (CX_cell m K c (lS t)) $$ HX
  icases HI with ⟨#HI₁, #Hr₁⟩
  ihave HI := (CX_cell m K (peer c t) (lR c)) $$ HX
  icases HI with ⟨#HI₂, #Hr₂⟩
  unfold blkP slotP
  iapply (Rounds.wp_send_pointsTo 𝒱₀ ER (sched m) (c : Thread nD τ) none (κ₁ := K (c, lS t)) (κ₂ := K (peer c t, lR c))
      (r₁ := 0) (r₂ := 0) (d₁ := 0) (d₂ := 0) (fd := f)
      (by rw [duties_cell, dut_S c t ht]; exact Finset.mem_singleton_self _)
      (by rw [duties_cell, dut_R (peer c t) c (peer_ne c t ht).symm]; exact Finset.mem_singleton_self _)
      () () NB (by rfl) ((amount_cell m c (lS t) 0).trans (amt_S t)) ((amount_cell m (peer c t) (lR c) 0).trans (amt_R c))
      (owR c (t.val + 1)) (owR_step c t) (W := W)
      (by rw [payload_cell, pay_S]; exact BI.Entails.refl _)
      (by rw [payload_cell, pay_R]; exact Entails.of_eq (pointsTo_congr (slot_landed m (peer c t) c f)))) $$ [Hblk Hslot HO Hts Htr]
  · isplitr; · iexact HI₁
    isplitr; · iexact HI₂
    isplitl [Hblk]; · iexact Hblk
    isplitl [Hslot]; · iexact Hslot
    isplitl [HO]; · iexact HO
    isplitl [Hts]; · iexact Hts
    isplitr; · iexact Hr₁
    isplitl [Htr]; · iexact Htr
    iexact Hr₂
  iintro ⟨Hc, HO⟩
  iapply Hk
  isplitr; · iexact HX
  isplitl [HO]; · iexists W; iexact HO
  isplitl [Hc]; · iexact Hc
  iexact Hrest

/-! ## The blocks received, the weight received -/

def rTodo (c : Dev nD) (j : Fin 16) : sProp 𝕄 :=
  iprop(atPos ER (cell c (lR j)) 0 ∅ 0 ∗ if j = c then slotP c j (GAT m c) else cred (tallyAt (cell c (lR j)) () NB))
def rDone (c : Dev nD) (j : Fin 16) : sProp 𝕄 :=
  iprop(atPos ER (cell c (lR j)) (if j = c then 0 else 1) ∅ 0 ∗ slotP c j (GAT m c))
def wWait (c : Dev nD) (k : Fin 8) : sProp 𝕄 := iprop(atPos ER (cell c (lW k)) 0 ∅ 0 ∗ cred (tallyAt (cell c (lW k)) () NW))
def wDone (c : Dev nD) (k : Fin 8) : sProp 𝕄 := iprop(atPos ER (cell c (lW k)) 1 ∅ 0 ∗ wslotP c k (WB m c) ∗ wrowP c k (Wt m c))
/-- The assembled rows' buffer with the columns of the blocks below `j` and of the device's own in place. -/
def rows (c : Dev nD) (j : ℕ) : sProp 𝕄 :=
  iprop(∃ f, ⌜∀ i : S128x2048.Idx, ((i 1 : Nat) / 128 < j ∨ (i 1 : Nat) / 128 = c.val) → f i = ROW m c i⌝ ∗ rvP c f)
/-- Device `c` with the blocks below `j` moved to their columns and the weight slots below `t` waited for. -/
def RC (c : Dev nD) (j t : ℕ) : sProp 𝕄 :=
  iprop(CX m K ∗ OW c (owR c 16) ∗ rows m c j ∗ fam j (rTodo m c) (rDone m c) ∗ fam t (wWait c) (wDone m c))

theorem rows_eq (c : Dev nD) (j : ℕ) :
    rows m c j = iprop(∃ f, ⌜∀ i : S128x2048.Idx, ((i 1 : Nat) / 128 < j ∨ (i 1 : Nat) / 128 = c.val) → f i = ROW m c i⌝ ∗ rvP c f) := rfl

theorem rows_next (c : Dev nD) (j : Fin 16) (f : S128x2048.Idx → Elt F .bf16)
    (hf : ∀ i : S128x2048.Idx, ((i 1 : Nat) / 128 < j.val ∨ (i 1 : Nat) / 128 = c.val) → f i = ROW m c i) :
    rvP c (((rV : Memref sig .tc .vmem S128x2048 .bf16).access (colR j)).write (Elt F) f (slotVal m c j) Finset.univ) ⊢ rows m c (j.val + 1) := by
  unfold rows
  iintro H
  iexists _
  isplitr
  rotate_left
  · iexact H
  ipureintro
  intro i hi
  rw [col_stored]
  by_cases h : (i 1 : Nat) / 128 = j.val
  · rw [if_pos h]
  · rw [if_neg h]; exact hf i (by omega)

theorem rows_own (c : Dev nD) (j : Fin 16) (h : j = c) : rows m c j.val ⊢ rows m c (j.val + 1) := by
  unfold rows
  iintro ⟨%f, %hf, H⟩
  iexists f
  isplitr
  rotate_left
  · iexact H
  ipureintro
  have hj : j.val = c.val := congrArg Fin.val h
  exact fun i hi => hf i (by omega)

/-- The wait for block `j` and the move of its slot to its columns, skipped for the device's own. -/
theorem step_recv (c : Dev nD) (j : Fin 16) (a b : ℕ) (ha : j.val = a) (hb : j.val + 1 = b) (t : ℕ) {cond : Prop} [Decidable cond] (hc : cond ↔ j ≠ c)
    {s : DmaSem sig} (e₁ : SemLoc.dma s = lR j)
    {src : Memref sig .tc .vmem S128x128 .bf16}
    {dst : Memref sig .tc .vmem S128x128 .bf16} (e₂ : dst.view.dmaCredit = NB) {hsrc : src.view.WordExact} {hdst : dst.view.WordExact}
    {o₃ : Fin 3 → ℕ} {i₃ : ∀ a, o₃ a + S1x128x128.size a ≤ S16x128x128.size a} (h₃ : o₃ = ![j.val, 0, 0])
    {o₂ : Fin 2 → ℕ} {i₂ : ∀ a, o₂ a + S128x128.size a ≤ S128x2048.size a} (h₂ : o₂ = ![0, 128 * j.val])
    {pay : Vec F S1x128x128 .bf16 → FVec F S128x128 .bf16}
    (hp : ∀ v, pay v = shapeCast S128x128 (shapeCast S128x128 v shapeCasts_S1x128x128_S128x128) shapeCasts_S128x128_S128x128)
    {hl₁ hl₂ hst₁ hst₂} {α : Type} {Q : α → sProp 𝕄} {k : PUnit → Prog (TpuEff nD τ sig (Elt F) Λ₀ .tc) α} :
    RC m K c a t ⊢ iprop((RC m K c b t -∗ WP c (k ⟨⟩) Q)
      -∗ WP c (if h : cond then
            .op (.waitDma2 s src dst hsrc hdst) fun _ =>
              .op (.load gV (Rect.unit (s := S16x128x128) o₃ S1x128x128.size i₃).toLoadRect hl₁) fun v =>
                .op (.load rV (Rect.unit (s := S128x2048) o₂ S128x128.size i₂).toLoadRect hl₂) fun _ =>
                  .op (.store rV (Rect.unit (s := S128x2048) o₂ S128x128.size i₂) (pay v) Finset.univ hst₁ hst₂) k
          else k ⟨⟩) Q) := by
  subst ha hb h₃ h₂
  unfold RC
  rw [fam_pick, fam_next]
  unfold rTodo rDone
  by_cases hj : j = c
  · rw [dif_neg (fun h => hc.mp h hj), if_pos hj, if_pos hj]
    iintro ⟨#HX, HO, Hrow, ⟨⟨Hat, Hslot⟩, Hrest⟩, Hw⟩ Hk
    iapply Hk
    isplitr; · iexact HX
    isplitl [HO]; · iexact HO
    isplitl [Hrow]; · iapply (rows_own m c j hj); iexact Hrow
    isplitr [Hw]
    · isplitl [Hat Hslot]
      · isplitl [Hat] <;> iassumption
      iexact Hrest
    iexact Hw
  · rw [dif_pos (hc.mpr hj), if_neg hj, if_neg hj]
    iintro ⟨#HX, HO, Hrow, ⟨⟨Hat, Hcr⟩, Hrest⟩, Hw⟩ Hk
    iapply (step_wait m K c (lR j) 16 NB (dut_R c j hj) (amt_R j) (.inr (owR_end c))
      (fun Kt => (wpE_waitDma2_eq 𝒱₀ (c : Thread nD τ) none Set.univ Kt).trans (by rw [e₁])) e₂) $$ [HO Hcr Hat]
    · isplitr; · iexact HX
      isplitl [HO]; · iexact HO
      isplitl [Hcr] <;> iassumption
    iintro ⟨HO, Hat, Hslot⟩
    ihave Hslot := (Entails.of_eq (pay_R m c j 0)) $$ Hslot
    unfold slotP
    iapply (wp_load 𝒱₀ (c : Thread nD τ) none Set.univ (m := gV) (S := (slotM j).view.set)
      (fun i hi => by obtain ⟨x, hx, rfl⟩ := Finset.mem_map.mp hi; rw [slot_set]; exact hx)) $$ Hslot
    iintro Hslot
    ihave Hrow := (Entails.of_eq (rows_eq m c j.val)) $$ Hrow
    icases Hrow with ⟨%f, %hf, Hrow⟩
    unfold rvP
    iapply (wp_load 𝒱₀ (c : Thread nD τ) none Set.univ (m := rV) (by rw [View.set_whole]; exact Finset.subset_univ _)) $$ Hrow; iintro Hrow
    iapply (wp_store 𝒱₀ (c : Thread nD τ) none Set.univ (m := rV) (r := colR j) (Mk := Finset.univ) (by rw [View.set_whole]; exact Finset.subset_univ _)) $$ Hrow
    iintro Hrow
    rw [hp, slot_load m (GAT m c) j c (fun _ _ => rfl), shapeCast_self]
    iapply Hk
    isplitr; · iexact HX
    isplitl [HO]; · iexact HO
    isplitl [Hrow]; · iapply (rows_next m c j f hf); unfold rvP; iexact Hrow
    isplitr [Hw]
    · isplitl [Hat Hslot]
      · isplitl [Hat] <;> iassumption
      iexact Hrest
    iexact Hw

/-- The wait for weight slot `t`. -/
theorem step_wwait (c : Dev nD) (j : ℕ) (t : Fin 8) (a b : ℕ) (ha : t.val = a) (hb : t.val + 1 = b) {s : DmaSem sig} (e₁ : SemLoc.dma s = lW t)
    {src : Memref sig .tc .hbm S256x2048 .f32} {dst : Memref sig .tc .vmem S256x2048 .f32} (e₂ : dst.view.dmaCredit = NW)
    {hsrc : src.view.WordExact} {hdst : dst.view.WordExact}
    {α : Type} {Q : α → sProp 𝕄} {k : PUnit → Prog (TpuEff nD τ sig (Elt F) Λ₀ .tc) α} :
    RC m K c j a ⊢ iprop((RC m K c j b -∗ WP c (k ⟨⟩) Q) -∗ WP c (.op (.waitDma2 s src dst hsrc hdst) k) Q) := by
  subst ha hb
  unfold RC
  rw [fam_pick t, fam_next t]
  unfold wWait wDone
  iintro ⟨#HX, HO, Hrow, Hr, ⟨Hat, Hcr⟩, Hrest⟩ Hk
  iapply (step_wait m K c (lW t) 16 NW (dut_W c t) (amt_W t) (.inr (owR_end c))
    (fun Kt => (wpE_waitDma2_eq 𝒱₀ (c : Thread nD τ) none Set.univ Kt).trans (by rw [e₁])) e₂) $$ [HO Hcr Hat]
  · isplitr; · iexact HX
    isplitl [HO]; · iexact HO
    isplitl [Hcr] <;> iassumption
  iintro ⟨HO, Hat, Hp⟩
  ihave Hp := (Entails.of_eq (pay_W m c t 0)) $$ Hp
  icases Hp with ⟨Hs, Hp⟩
  iapply Hk
  isplitr; · iexact HX
  isplitl [HO]; · iexact HO
  isplitl [Hrow]; · iexact Hrow
  isplitl [Hr]; · iexact Hr
  isplitl [Hat Hs Hp]
  · isplitl [Hat]; · iexact Hat
    isplitl [Hs] <;> iassumption
  iexact Hrest

/-- The load of a weight slot waited for. -/
theorem step_wload (c : Dev nD) (j t : ℕ) (d : Fin 8) (hd : d.val < t)
    {o : Fin 3 → ℕ} {i : ∀ a, o a + S1x256x2048.size a ≤ S8x256x2048.size a} (h : o = ![d.val, 0, 0]) {hl}
    {α : Type} {Q : α → sProp 𝕄} {k : Vec F S1x256x2048 .f32 → Prog (TpuEff nD τ sig (Elt F) Λ₀ .tc) α} :
    RC m K c j t ⊢ iprop((RC m K c j t -∗ WP c (k (wChunk m c d)) Q)
      -∗ WP c (.op (.load wV (Rect.unit (s := S8x256x2048) o S1x256x2048.size i).toLoadRect hl) k) Q) := by
  subst h
  unfold RC
  rw [fam_done d hd]
  unfold wDone
  iintro ⟨#HX, HO, Hrow, Hr, ⟨Hat, Hs, Hp⟩, Hrest⟩ Hk
  unfold wslotP
  iapply (wp_load 𝒱₀ (c : Thread nD τ) none Set.univ (m := wV) (S := (wslotM d).view.set)
    (fun i hi => by obtain ⟨x, hx, rfl⟩ := Finset.mem_map.mp hi; rw [wslot_set]; exact hx)) $$ Hs
  iintro Hs
  iapply Hk
  isplitr; · iexact HX
  isplitl [HO]; · iexact HO
  isplitl [Hrow]; · iexact Hrow
  isplitl [Hr]; · iexact Hr
  isplitl [Hat Hs Hp]
  · isplitl [Hat]; · iexact Hat
    isplitl [Hs] <;> iassumption
  iexact Hrest

/-- The load of two column blocks in place. -/
theorem step_xload (c : Dev nD) (j t : ℕ) (d : Fin 8) (hd : 2 * d.val + 2 ≤ j)
    {o : Fin 2 → ℕ} {i : ∀ a, o a + S128x256.size a ≤ S128x2048.size a} (h : o = ![0, 256 * d.val]) {hl}
    {α : Type} {Q : α → sProp 𝕄} {k : Vec F S128x256 .bf16 → Prog (TpuEff nD τ sig (Elt F) Λ₀ .tc) α} :
    RC m K c j t ⊢ iprop((RC m K c j t -∗ WP c (k (xChunk m c d)) Q)
      -∗ WP c (.op (.load rV (Rect.unit (s := S128x2048) o S128x256.size i).toLoadRect hl) k) Q) := by
  subst h
  unfold RC
  iintro ⟨#HX, HO, Hrow, Hr⟩ Hk
  unfold rows
  icases Hrow with ⟨%f, %hf, Hrow⟩
  unfold rvP
  iapply (wp_load 𝒱₀ (c : Thread nD τ) none Set.univ (m := rV) (by rw [View.set_whole]; exact Finset.subset_univ _)) $$ Hrow; iintro Hrow
  have e : (rV : Memref sig .tc .vmem S128x2048 .bf16).view.readAt (Elt F) (chunkR d).toLoadRect f = xChunk m c d :=
    View.readAt_congr fun i hi => hf i (.inl (by
      obtain ⟨x, hx, rfl⟩ := Finset.mem_map.mp hi
      have := mem_chunk (k := d) (i := x) hx
      show (x 1 : Nat) / 128 < j
      omega))
  rw [e]
  iapply Hk
  isplitr; · iexact HX
  isplitl [HO]; · iexact HO
  isplitl [Hrow]
  · iexists f; isplitr; · (ipureintro; exact hf)
    iexact Hrow
  iexact Hr

/-! ## The transfers' ends -/

def dTodo (c : Dev nD) (d : Fin 16) : sProp 𝕄 := iprop(atPos ER (cell c (lS d)) 0 ∅ 0 ∗ sSent c d)
def dDone (c : Dev nD) (d : Fin 16) : sProp 𝕄 :=
  iprop(atPos ER (cell c (lS d)) (if d = 0 then 0 else 1) ∅ 0 ∗ if d = 0 then iprop(emp) else blkP c (peer c d) (XB m c))
/-- Device `c` with the transfers to the peers less than `t` places on ended. -/
def SW (c : Dev nD) (t : ℕ) : sProp 𝕄 := iprop(CX m K ∗ OW c (owR c 16) ∗ fam t (dTodo c) (dDone m c))

theorem step_swait (c : Dev nD) (t : Fin 16) (a b : ℕ) (ha : t.val = a) (hb : t.val + 1 = b) (ht : t ≠ 0) {s : DmaSem sig} (e₁ : SemLoc.dma s = lS t)
    {src dst : Memref sig .tc .vmem S128x128 .bf16} (e₂ : dst.view.dmaCredit = NB) {hsrc : src.view.WordExact} {hdst : dst.view.WordExact}
    {α : Type} {Q : α → sProp 𝕄} {k : PUnit → Prog (TpuEff nD τ sig (Elt F) Λ₀ .tc) α} :
    SW m K c a ⊢ iprop((SW m K c b -∗ WP c (k ⟨⟩) Q) -∗ WP c (.op (.waitDma2 s src dst hsrc hdst) k) Q) := by
  subst ha hb
  unfold SW
  rw [fam_pick t, fam_next t]
  unfold dTodo dDone sSent
  rw [if_neg ht, if_neg ht, if_neg ht]
  iintro ⟨#HX, HO, ⟨Hat, Hcr⟩, Hrest⟩ Hk
  iapply (step_wait m K c (lS t) 16 NB (dut_S c t ht) (amt_S t) (.inr (owR_end c))
    (fun Kt => (wpE_waitDma2_eq 𝒱₀ (c : Thread nD τ) none Set.univ Kt).trans (by rw [e₁])) e₂) $$ [HO Hcr Hat]
  · isplitr; · iexact HX
    isplitl [HO]; · iexact HO
    isplitl [Hcr] <;> iassumption
  iintro ⟨HO, Hat, Hp⟩
  ihave Hp := (Entails.of_eq (pay_S m c t 0)) $$ Hp
  iapply Hk
  isplitr; · iexact HX
  isplitl [HO]; · iexact HO
  isplitl [Hat Hp]
  · isplitl [Hat] <;> iassumption
  iexact Hrest

end Cert.A2A

end
-- ==== Proof.Copies.lean ====
/-
The copies of the operand and of the result, and a part of the kernel at the buffers and semaphores it is launched on.
-/
module

public import proofs.«01_k».proof.Proof.Steps

@[expose] public section

noncomputable section

namespace Cert.A2A

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)
variable (K : Dev nD × SemLoc sig → ℕ)

/-- A part of the kernel at the buffers and semaphores of its launch. -/
abbrev atB {α : Type _} (p : (a0 : Memref sig .tc .hbm S2048x128 .f32) → a0.IsWhole → (a1 : Memref sig .tc .hbm S2048x2048 .f32) → a1.IsWhole →
    (a2 : Memref sig .tc .hbm S128x2048 .f32) → a2.IsWhole → (a3 : Memref sig .tc .vmem S2048x128 .f32) → a3.IsWhole →
    (a4 : Memref sig .tc .vmem S2048x128 .bf16) → a4.IsWhole → (a5 : Memref sig .tc .vmem S16x128x128 .bf16) → a5.IsWhole →
    (a6 : Memref sig .tc .vmem S128x2048 .bf16) → a6.IsWhole → (a7 : Memref sig .tc .vmem S8x256x2048 .f32) → a7.IsWhole →
    (a8 : Memref sig .tc .vmem S128x2048 .f32) → a8.IsWhole →
    DmaSems sig S16 → DmaSems sig S16 → DmaSems sig S8 → DmaSems sig S_ → DmaSems sig S_ → α) : α :=
  p (Memref.whole main_arg0) (Memref.isWhole_whole _) (Memref.whole main_arg1) (Memref.isWhole_whole _) (Memref.whole main_v1) (Memref.isWhole_whole _)
    (Memref.whole cc0_scratch0) (Memref.isWhole_whole _) (Memref.whole cc0_scratch1) (Memref.isWhole_whole _) (Memref.whole cc0_scratch2) (Memref.isWhole_whole _)
    (Memref.whole cc0_scratch3) (Memref.isWhole_whole _) (Memref.whole cc0_scratch4) (Memref.isWhole_whole _) (Memref.whole cc0_scratch5) (Memref.isWhole_whole _)
    cc0_scratch6 cc0_scratch7 cc0_scratch8 cc0_scratch9 cc0_scratch10

/-- A device's number as the kernel computes it. -/
abbrev dw (c : Dev nD) : BitVec 32 := Scalar.remsi (Scalar.divsi (Dev.word c) 1#32) 16#32

/-- The start of the operand's copy. -/
theorem step_xcopy (c : Dev nD) {l : SemLoc sig} (e₃ : l = lX)
    {hsrc : (xA : Memref sig .tc .hbm S2048x128 .f32).view.WordExact} {hdst : (xV : Memref sig .tc .vmem S2048x128 .f32).view.WordExact}
    {hsem : DmaTarget.Typed (nD := nD) .hbm l (DmaTarget.here (p := (.tc : Proc τ)) (xV : Memref sig .tc .vmem S2048x128 .f32))}
    {α : Type} {Q : α → sProp 𝕄} {k : PUnit → Prog (TpuEff nD τ sig (Elt F) Λ₀ .tc) α} :
    iprop(CX m K ∗ xaP c (X m c) ∗ (∃ f, xvP c f) ∗ dutyTok ER (cell c lX) 0 0)
      ⊢ iprop((cred (tallyAt (cell c lX) () NX) -∗ WP c (k ⟨⟩) Q)
      -∗ WP c (.op (.enqueueDma xA (.here xV) l hsrc hdst hsem) k) Q) := by
  subst e₃
  iintro ⟨#HX, Hx, ⟨%f, Hv⟩, Htok⟩ Hk
  ihave HI := (CX_cell m K c lX) $$ HX
  icases HI with ⟨#HI, #Hr⟩
  unfold xaP xvP
  iapply (Rounds.wp_copy_pointsTo 𝒱₀ ER (sched m) (c : Thread nD τ) none (κ := K (c, lX)) (r := 0) (d := 0)
      (by rw [duties_cell, dut_X]; exact Finset.mem_singleton_self _) () NX (by rfl) ((amount_cell m c lX 0).trans amt_X)
      (by
        rw [payload_cell, pay_X]; unfold xaP xvP
        refine sep_mono_left (Entails.of_eq (pointsTo_congr fun i _ => ?_))
        rw [View.read_whole, View.write_whole_univ])) $$ [Hx Hv Htok]
  · isplitr; · iexact HI
    isplitl [Hx]; · iexact Hx
    isplitl [Hv]; · iexact Hv
    isplitl [Htok]; · iexact Htok
    iexact Hr
  iintro Hc
  iapply Hk
  iexact Hc

/-- The start of the result's copy. -/
theorem step_ocopy (c : Dev nD) {l : SemLoc sig} (e₃ : l = lO)
    {hsrc : (yV : Memref sig .tc .vmem S128x2048 .f32).view.WordExact} {hdst : (oA : Memref sig .tc .hbm S128x2048 .f32).view.WordExact}
    {hsem : DmaTarget.Typed (nD := nD) .vmem l (DmaTarget.here (p := (.tc : Proc τ)) (oA : Memref sig .tc .hbm S128x2048 .f32))}
    {α : Type} {Q : α → sProp 𝕄} {k : PUnit → Prog (TpuEff nD τ sig (Elt F) Λ₀ .tc) α} :
    iprop(CX m K ∗ yvP c (outAt m c) ∗ (∃ f, oaP c f) ∗ dutyTok ER (cell c lO) 0 0)
      ⊢ iprop((cred (tallyAt (cell c lO) () NO) -∗ WP c (k ⟨⟩) Q)
      -∗ WP c (.op (.enqueueDma yV (.here oA) l hsrc hdst hsem) k) Q) := by
  subst e₃
  iintro ⟨#HX, Hx, ⟨%f, Hv⟩, Htok⟩ Hk
  ihave HI := (CX_cell m K c lO) $$ HX
  icases HI with ⟨#HI, #Hr⟩
  unfold oaP yvP
  iapply (Rounds.wp_copy_pointsTo 𝒱₀ ER (sched m) (c : Thread nD τ) none (κ := K (c, lO)) (r := 0) (d := 0)
      (by rw [duties_cell, dut_O]; exact Finset.mem_singleton_self _) () NO (by rfl) ((amount_cell m c lO 0).trans amt_O)
      (by
        rw [payload_cell, pay_O]; unfold oaP yvP
        refine sep_mono_left (Entails.of_eq (pointsTo_congr fun i _ => ?_))
        rw [View.read_whole, View.write_whole_univ])) $$ [Hx Hv Htok]
  · isplitr; · iexact HI
    isplitl [Hx]; · iexact Hx
    isplitl [Hv]; · iexact Hv
    isplitl [Htok]; · iexact Htok
    iexact Hr
  iintro Hc
  iapply Hk
  iexact Hc

end Cert.A2A

end
-- ==== Proof.PartC.lean ====
/-
The products: each pair of blocks waited for and put in its columns, each chunk of the weight waited for and multiplied.
-/
module

public import proofs.«01_k».proof.Proof.Copies

@[expose] public section

noncomputable section

namespace Cert.A2A

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)
variable (K : Dev nD × SemLoc sig → ℕ)

/-- A block is skipped exactly when it is the device's own. -/
theorem cond_ok (c : Dev nD) (j : Fin 16) :
    (Scalar.cmpi .ne (Scalar.extui (Scalar.cmpi .ne (dw c) (BitVec.ofNat 32 j.val)) : BitVec 32) 0#32 = 1#1) ↔ j ≠ c := by
  revert c j; decide

/-- Blocks two to four and the second chunk. -/
theorem part12_ok (c : Dev nD) {Q : (Σ' (v336 : FVec F S128x2048 .f32), BitVec 32) → sProp 𝕄} :
    RC m K c 2 1 ⊢ iprop((RC m K c 5 2 -∗ Q ⟨acc1 m c, Scalar.extui (Scalar.cmpi .ne (dw c) 5#32)⟩) -∗ WP c (atB (k0_part12 (F := F)) (dw c) (k0_pay6 (wChunk m c 0))) Q) := by
  simp only [k0_part12_eq_skeleton]
  unfold k0_part12_skel
  simp only [Prog.lift, Prog.bind_op, Prog.bind_ret, Prog.pure_eq_ret]
  iintro HR Hk
  iapply (step_xload m K c 2 1 0 (by decide) rfl) $$ HR; iintro HR
  iapply (step_recv m K c 2 2 3 rfl rfl 1 (cond_ok c 2) (by rfl) (by rfl) (by rfl) (by rfl) (by intro _; rfl)) $$ HR; iintro HR
  iapply (step_recv m K c 3 3 4 rfl rfl 1 (cond_ok c 3) (by rfl) (by rfl) (by rfl) (by rfl) (by intro _; rfl)) $$ HR; iintro HR
  iapply (step_wwait m K c 4 1 1 2 rfl rfl (by rfl) (by rfl)) $$ HR; iintro HR
  iapply (step_wload m K c 4 2 1 (by decide) rfl) $$ HR; iintro HR
  iapply (step_xload m K c 4 2 1 (by decide) rfl) $$ HR; iintro HR
  iapply (step_recv m K c 4 4 5 rfl rfl 2 (cond_ok c 4) (by rfl) (by rfl) (by rfl) (by rfl) (by intro _; rfl)) $$ HR; iintro HR
  iapply (WP_ret c)
  iapply Hk
  iexact HR

/-- Blocks five to seven, the third chunk, and the wait for the fourth. -/
theorem part13_ok (c : Dev nD) {Q : (FVec F S128x2048 .f32) → sProp 𝕄} :
    RC m K c 5 2 ⊢ iprop((RC m K c 8 4 -∗ Q (acc2 m c)) -∗ WP c (atB (k0_part13 (F := F)) (dw c) (acc1 m c) (Scalar.extui (Scalar.cmpi .ne (dw c) 5#32))) Q) := by
  simp only [k0_part13_eq_skeleton]
  unfold k0_part13_skel
  simp only [Prog.lift, Prog.bind_op, Prog.bind_ret, Prog.pure_eq_ret]
  iintro HR Hk
  iapply (step_recv m K c 5 5 6 rfl rfl 2 (cond_ok c 5) (by rfl) (by rfl) (by rfl) (by rfl) (by intro _; rfl)) $$ HR; iintro HR
  iapply (step_wwait m K c 6 2 2 3 rfl rfl (by rfl) (by rfl)) $$ HR; iintro HR
  iapply (step_wload m K c 6 3 2 (by decide) rfl) $$ HR; iintro HR
  iapply (step_xload m K c 6 3 2 (by decide) rfl) $$ HR; iintro HR
  iapply (step_recv m K c 6 6 7 rfl rfl 3 (cond_ok c 6) (by rfl) (by rfl) (by rfl) (by rfl) (by intro _; rfl)) $$ HR; iintro HR
  iapply (step_recv m K c 7 7 8 rfl rfl 3 (cond_ok c 7) (by rfl) (by rfl) (by rfl) (by rfl) (by intro _; rfl)) $$ HR; iintro HR
  iapply (step_wwait m K c 8 3 3 4 rfl rfl (by rfl) (by rfl)) $$ HR; iintro HR
  iapply (WP_ret c)
  iapply Hk
  iexact HR

/-- Blocks eight and nine, the fourth and the fifth chunk. -/
theorem part14_ok (c : Dev nD) {Q : (Σ' (v387 : FVec F S128x2048 .f32), BitVec 1) → sProp 𝕄} :
    RC m K c 8 4 ⊢ iprop((RC m K c 10 5 -∗ Q ⟨acc4 m c, Scalar.cmpi .ne (Scalar.extui (Scalar.cmpi .ne (dw c) 10#32) : BitVec 32) 0#32⟩) -∗ WP c (atB (k0_part14 (F := F)) (dw c) (acc2 m c)) Q) := by
  simp only [k0_part14_eq_skeleton]
  unfold k0_part14_skel
  simp only [Prog.lift, Prog.bind_op, Prog.bind_ret, Prog.pure_eq_ret]
  iintro HR Hk
  iapply (step_wload m K c 8 4 3 (by decide) rfl) $$ HR; iintro HR
  iapply (step_xload m K c 8 4 3 (by decide) rfl) $$ HR; iintro HR
  iapply (step_recv m K c 8 8 9 rfl rfl 4 (cond_ok c 8) (by rfl) (by rfl) (by rfl) (by rfl) (by intro _; rfl)) $$ HR; iintro HR
  iapply (step_recv m K c 9 9 10 rfl rfl 4 (cond_ok c 9) (by rfl) (by rfl) (by rfl) (by rfl) (by intro _; rfl)) $$ HR; iintro HR
  iapply (step_wwait m K c 10 4 4 5 rfl rfl (by rfl) (by rfl)) $$ HR; iintro HR
  iapply (step_wload m K c 10 5 4 (by decide) rfl) $$ HR; iintro HR
  iapply (step_xload m K c 10 5 4 (by decide) rfl) $$ HR; iintro HR
  iapply (WP_ret c)
  iapply Hk
  iexact HR

/-- Blocks ten to thirteen and the sixth chunk. -/
theorem part15_ok (c : Dev nD) {Q : (FVec F S128x2048 .f32) → sProp 𝕄} :
    RC m K c 10 5 ⊢ iprop((RC m K c 14 6 -∗ Q (acc5 m c)) -∗ WP c (atB (k0_part15 (F := F)) (dw c) (acc4 m c) (Scalar.cmpi .ne (Scalar.extui (Scalar.cmpi .ne (dw c) 10#32) : BitVec 32) 0#32)) Q) := by
  simp only [k0_part15_eq_skeleton]
  unfold k0_part15_skel
  simp only [Prog.lift, Prog.bind_op, Prog.bind_ret, Prog.pure_eq_ret]
  iintro HR Hk
  iapply (step_recv m K c 10 10 11 rfl rfl 5 (cond_ok c 10) (by rfl) (by rfl) (by rfl) (by rfl) (by intro _; rfl)) $$ HR; iintro HR
  iapply (step_recv m K c 11 11 12 rfl rfl 5 (cond_ok c 11) (by rfl) (by rfl) (by rfl) (by rfl) (by intro _; rfl)) $$ HR; iintro HR
  iapply (step_wwait m K c 12 5 5 6 rfl rfl (by rfl) (by rfl)) $$ HR; iintro HR
  iapply (step_wload m K c 12 6 5 (by decide) rfl) $$ HR; iintro HR
  iapply (step_xload m K c 12 6 5 (by decide) rfl) $$ HR; iintro HR
  iapply (step_recv m K c 12 12 13 rfl rfl 6 (cond_ok c 12) (by rfl) (by rfl) (by rfl) (by rfl) (by intro _; rfl)) $$ HR; iintro HR
  iapply (step_recv m K c 13 13 14 rfl rfl 6 (cond_ok c 13) (by rfl) (by rfl) (by rfl) (by rfl) (by intro _; rfl)) $$ HR; iintro HR
  iapply (WP_ret c)
  iapply Hk
  iexact HR

/-- The last two blocks and the last two chunks. -/
theorem part16_ok (c : Dev nD) {Q : (Σ' (v438 : FVec F S128x2048 .f32), FVec F S128x2048 .f32) → sProp 𝕄} :
    RC m K c 14 6 ⊢ iprop((RC m K c 16 8 -∗ Q ⟨acc7 m c, k0_pay26⟩) -∗ WP c (atB (k0_part16 (F := F)) (dw c) (acc5 m c)) Q) := by
  simp only [k0_part16_eq_skeleton]
  unfold k0_part16_skel
  simp only [Prog.lift, Prog.bind_op, Prog.bind_ret, Prog.pure_eq_ret]
  iintro HR Hk
  iapply (step_wwait m K c 14 6 6 7 rfl rfl (by rfl) (by rfl)) $$ HR; iintro HR
  iapply (step_wload m K c 14 7 6 (by decide) rfl) $$ HR; iintro HR
  iapply (step_xload m K c 14 7 6 (by decide) rfl) $$ HR; iintro HR
  iapply (step_recv m K c 14 14 15 rfl rfl 7 (cond_ok c 14) (by rfl) (by rfl) (by rfl) (by rfl) (by intro _; rfl)) $$ HR; iintro HR
  iapply (step_recv m K c 15 15 16 rfl rfl 7 (cond_ok c 15) (by rfl) (by rfl) (by rfl) (by rfl) (by intro _; rfl)) $$ HR; iintro HR
  iapply (step_wwait m K c 16 7 7 8 rfl rfl (by rfl) (by rfl)) $$ HR; iintro HR
  iapply (step_wload m K c 16 8 7 (by decide) rfl) $$ HR; iintro HR
  iapply (step_xload m K c 16 8 7 (by decide) rfl) $$ HR; iintro HR
  iapply (WP_ret c)
  iapply Hk
  iexact HR

end Cert.A2A

end
-- ==== Proof.PartB.lean ====
/-
The fifteen transfers of the device's row blocks to its peers, then the first two blocks received and the first chunk of
the weight.
-/
module

public import proofs.«01_k».proof.Proof.PartC

@[expose] public section

noncomputable section

namespace Cert.A2A

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)
variable (K : Dev nD × SemLoc sig → ℕ)

/-- Every transfer lands in the sender's slot of the peer, and is counted on the sender's receive cell there. -/
theorem sendDst (c : Dev nD) : k0_off5 c = ![c.val, 0, 0] := by revert c; decide
theorem recvSem (c : Dev nD) :
    SemLoc.dma ((cc0_scratch7.slice (Rect.unit (s := S16) (k0_off4 c) S1.size (k0_off4_inb c))).squeeze S_ squeezes_S1_S_).sem = lR c := by
  revert c; decide

theorem part6_ok (c : Dev nD) (v2 v125 : BitVec 32) {Q : BitVec 32 → sProp 𝕄} :
    SD m K c 1 ⊢ iprop((SD m K c 4 -∗ Q 4#32) -∗ WP c (atB (k0_part6 (F := F)) c v2 v125) Q) := by
  simp only [k0_part6_eq_skeleton]
  unfold k0_part6_skel
  simp only [Prog.lift, Prog.bind_op, Prog.bind_ret, Prog.pure_eq_ret]
  iintro HS Hk
  iapply (step_send m K c 1 1 2 rfl rfl (by decide) (by revert c; decide) _ (by revert c; decide) _ (sendDst c) rfl (recvSem c)) $$ HS; iintro HS
  iapply (step_send m K c 2 2 3 rfl rfl (by decide) (by revert c; decide) _ (by revert c; decide) _ (sendDst c) rfl (recvSem c)) $$ HS; iintro HS
  iapply (step_send m K c 3 3 4 rfl rfl (by decide) (by revert c; decide) _ (by revert c; decide) _ (sendDst c) rfl (recvSem c)) $$ HS; iintro HS
  iapply (WP_ret c)
  iapply Hk
  iexact HS

theorem part7_ok (c : Dev nD) (v2 v125 : BitVec 32) {Q : PUnit → sProp 𝕄} :
    SD m K c 4 ⊢ iprop((SD m K c 6 -∗ Q ⟨⟩) -∗ WP c (atB (k0_part7 (F := F)) c v2 v125) Q) := by
  simp only [k0_part7_eq_skeleton]
  unfold k0_part7_skel
  simp only [Prog.lift, Prog.bind_op, Prog.bind_ret, Prog.pure_eq_ret]
  iintro HS Hk
  iapply (step_send m K c 4 4 5 rfl rfl (by decide) (by revert c; decide) _ (by revert c; decide) _ (sendDst c) rfl (recvSem c)) $$ HS; iintro HS
  iapply (step_send m K c 5 5 6 rfl rfl (by decide) (by revert c; decide) _ (by revert c; decide) _ (sendDst c) rfl (recvSem c)) $$ HS; iintro HS
  iapply (WP_ret c)
  iapply Hk
  iexact HS

theorem part8_ok (c : Dev nD) (v2 : BitVec 32) {Q : PUnit → sProp 𝕄} :
    SD m K c 6 ⊢ iprop((SD m K c 9 -∗ Q ⟨⟩) -∗ WP c (atB (k0_part8 (F := F)) c v2) Q) := by
  simp only [k0_part8_eq_skeleton]
  unfold k0_part8_skel
  simp only [Prog.lift, Prog.bind_op, Prog.bind_ret, Prog.pure_eq_ret]
  iintro HS Hk
  iapply (step_send m K c 6 6 7 rfl rfl (by decide) (by revert c; decide) _ (by revert c; decide) _ (sendDst c) rfl (recvSem c)) $$ HS; iintro HS
  iapply (step_send m K c 7 7 8 rfl rfl (by decide) (by revert c; decide) _ (by revert c; decide) _ (sendDst c) rfl (recvSem c)) $$ HS; iintro HS
  iapply (step_send m K c 8 8 9 rfl rfl (by decide) (by revert c; decide) _ (by revert c; decide) _ (sendDst c) rfl (recvSem c)) $$ HS; iintro HS
  iapply (WP_ret c)
  iapply Hk
  iexact HS

theorem part9_ok (c : Dev nD) (v2 : BitVec 32) {Q : (Σ' (v257 : BitVec 32), BitVec 32) → sProp 𝕄} :
    SD m K c 9 ⊢ iprop((SD m K c 12 -∗ Q ⟨Scalar.remsi (Scalar.addi v2 12#32) 16#32, 128#32⟩) -∗ WP c (atB (k0_part9 (F := F)) c v2) Q) := by
  simp only [k0_part9_eq_skeleton]
  unfold k0_part9_skel
  simp only [Prog.lift, Prog.bind_op, Prog.bind_ret, Prog.pure_eq_ret]
  iintro HS Hk
  iapply (step_send m K c 9 9 10 rfl rfl (by decide) (by revert c; decide) _ (by revert c; decide) _ (sendDst c) rfl (recvSem c)) $$ HS; iintro HS
  iapply (step_send m K c 10 10 11 rfl rfl (by decide) (by revert c; decide) _ (by revert c; decide) _ (sendDst c) rfl (recvSem c)) $$ HS; iintro HS
  iapply (step_send m K c 11 11 12 rfl rfl (by decide) (by revert c; decide) _ (by revert c; decide) _ (sendDst c) rfl (recvSem c)) $$ HS; iintro HS
  iapply (WP_ret c)
  iapply Hk
  iexact HS

theorem part10_ok (c : Dev nD) (v2 v125 v126 : BitVec 32) {Q : PUnit → sProp 𝕄} :
    SD m K c 12 ⊢ iprop((SD m K c 14 -∗ Q ⟨⟩) -∗ WP c (atB (k0_part10 (F := F)) c v2 v125 v126) Q) := by
  simp only [k0_part10_eq_skeleton]
  unfold k0_part10_skel
  simp only [Prog.lift, Prog.bind_op, Prog.bind_ret, Prog.pure_eq_ret]
  iintro HS Hk
  iapply (step_send m K c 12 12 13 rfl rfl (by decide) (by revert c; decide) _ (by revert c; decide) _ (sendDst c) rfl (recvSem c)) $$ HS; iintro HS
  iapply (step_send m K c 13 13 14 rfl rfl (by decide) (by revert c; decide) _ (by revert c; decide) _ (sendDst c) rfl (recvSem c)) $$ HS; iintro HS
  iapply (WP_ret c)
  iapply Hk
  iexact HS

theorem SD_end (c : Dev nD) : SD m K c 16 ⊢ iprop(CX m K ∗ OW c (owR c 16) ∗ bigSep Finset.univ (sSent (F := F) c)) := by
  unfold SD
  rw [fam_all (by decide)]
theorem RC_intro (c : Dev nD) :
    iprop((rows m c 0 ∗ fam 0 (rTodo m c) (rDone m c) ∗ fam 0 (wWait c) (wDone m c)) ∗ CX m K ∗ OW c (owR c 16)) ⊢ RC m K c 0 0 := by
  unfold RC
  iintro ⟨⟨H₁, H₂, H₃⟩, #HX, HO⟩
  isplitr; · iexact HX
  isplitl [HO]; · iexact HO
  isplitl [H₁]; · iexact H₁
  isplitl [H₂] <;> iassumption

/-- The last two transfers, the first two blocks and the first chunk. -/
theorem part11_ok (c : Dev nD) {Q : FVec F S256x2048 .bf16 → sProp 𝕄} :
    iprop(SD m K c 14 ∗ rows m c 0 ∗ fam 0 (rTodo m c) (rDone m c) ∗ fam 0 (wWait c) (wDone m c))
      ⊢ iprop(((RC m K c 2 1 ∗ bigSep Finset.univ (sSent c)) -∗ Q (k0_pay6 (wChunk m c 0))) -∗ WP c (atB (k0_part11 (F := F)) c (dw c)) Q) := by
  simp only [k0_part11_eq_skeleton]
  unfold k0_part11_skel
  simp only [Prog.lift, Prog.bind_op, Prog.bind_ret, Prog.pure_eq_ret]
  iintro ⟨HS, HR⟩ Hk
  iapply (step_send m K c 14 14 15 rfl rfl (by decide) (by revert c; decide) _ (by revert c; decide) _ (sendDst c) rfl (recvSem c)) $$ HS; iintro HS
  iapply (step_send m K c 15 15 16 rfl rfl (by decide) (by revert c; decide) _ (by revert c; decide) _ (sendDst c) rfl (recvSem c)) $$ HS; iintro HS
  ihave HS := (SD_end m K c) $$ HS
  icases HS with ⟨HX, HO, HS⟩
  ihave HR := (show iprop((rows m c 0 ∗ fam 0 (rTodo m c) (rDone m c) ∗ fam 0 (wWait c) (wDone m c)) ∗ CX m K ∗ OW c (owR c 16)) ⊢ RC m K c 0 0 from RC_intro m K c) $$ [HR HX HO]
  · isplitl [HR]; · iexact HR
    isplitl [HX] <;> iassumption
  iapply (step_recv m K c 0 0 1 rfl rfl 0 (cond_ok c 0) (by rfl) (by rfl) (by rfl) (by rfl) (by intro _; rfl)) $$ HR; iintro HR
  iapply (step_recv m K c 1 1 2 rfl rfl 0 (cond_ok c 1) (by rfl) (by rfl) (by rfl) (by rfl) (by intro _; rfl)) $$ HR; iintro HR
  iapply (step_wwait m K c 2 0 0 1 rfl rfl (by rfl) (by rfl)) $$ HR; iintro HR
  iapply (step_wload m K c 2 1 0 (by decide) rfl) $$ HR; iintro HR
  iapply (WP_ret c)
  iapply Hk
  isplitl [HR] <;> iassumption

end Cert.A2A

end
-- ==== Proof.PartA.lean ====
/-
The kernel up to the transfers: the copies started, the peers signalled, the operand rounded, the device's own block
put in its slot and its columns, and the barrier passed.
-/
module

public import proofs.«01_k».proof.Proof.Copies

@[expose] public section

noncomputable section

namespace Cert.A2A

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)
variable (K : Dev nD × SemLoc sig → ℕ)

theorem WC_CX (c : Dev nD) (t : ℕ) : WC m K c t ⊢ iprop(CX m K ∗ WC m K c t) := by
  unfold WC
  iintro ⟨#HX, H⟩
  isplitr
  · iexact HX
  isplitr
  · iexact HX
  iexact H

/-- The operand's copy and the first four of the weight's are started. -/
theorem part1_ok (c : Dev nD) {Q : (Σ' (d0 : Dev nD), BitVec 32) → sProp 𝕄} :
    iprop(WC m K c 0 ∗ xaP c (X m c) ∗ (∃ f, xvP c f) ∗ dutyTok ER (cell c lX) 0 0)
      ⊢ iprop(((WC m K c 4 ∗ cred (tallyAt (cell c lX) () NX)) -∗ Q ⟨c, dw c⟩) -∗ WP c (atB (k0_part1 (F := F))) Q) := by
  simp only [k0_part1_eq_skeleton]
  unfold k0_part1_skel
  simp only [Prog.lift, Prog.bind_op, Prog.bind_ret, Prog.pure_eq_ret, wp_deviceId]
  iintro ⟨HW, Hx, Hv, Htok⟩ Hk
  ihave HX := (WC_CX m K c 0) $$ HW
  icases HX with ⟨HX, HW⟩
  iapply (step_xcopy m K c rfl) $$ [HX Hx Hv Htok]
  · isplitl [HX]; · iexact HX
    isplitl [Hx]; · iexact Hx
    isplitl [Hv] <;> iassumption
  iintro Hc
  iapply (step_wcopy m K c 0 0 1 rfl rfl rfl rfl rfl) $$ HW; iintro HW
  iapply (step_wcopy m K c 1 1 2 rfl rfl rfl rfl rfl) $$ HW; iintro HW
  iapply (step_wcopy m K c 2 2 3 rfl rfl rfl rfl rfl) $$ HW; iintro HW
  iapply (step_wcopy m K c 3 3 4 rfl rfl rfl rfl rfl) $$ HW; iintro HW
  iapply (WP_ret c)
  iapply Hk
  isplitl [HW] <;> iassumption

/-- The weight's last four copies are started and the next device is signalled. -/
theorem part2_ok (c : Dev nD) (v2 : BitVec 32) {Q : (Σ' (v43 : Sems sig S_) (v49 : BitVec 32), BitVec 32) → sProp 𝕄} :
    iprop(WC m K c 4 ∗ SG m K c 1)
      ⊢ iprop(((WC m K c 8 ∗ SG m K c 2) -∗ Q ⟨SemArray.scalar (sig.barrier 0 rfl), Scalar.remsi (Scalar.addi v2 2#32) 16#32, 1#32⟩) -∗ WP c (atB (k0_part2 (F := F)) c v2) Q) := by
  simp only [k0_part2_eq_skeleton]
  unfold k0_part2_skel
  simp only [semSignalWord, Prog.lift, Prog.bind_op, Prog.bind_ret, Prog.pure_eq_ret]
  iintro ⟨HW, HS⟩ Hk
  iapply (step_wcopy m K c 4 4 5 rfl rfl rfl rfl rfl) $$ HW; iintro HW
  iapply (step_wcopy m K c 5 5 6 rfl rfl rfl rfl rfl) $$ HW; iintro HW
  iapply (step_wcopy m K c 6 6 7 rfl rfl rfl rfl rfl) $$ HW; iintro HW
  iapply (step_wcopy m K c 7 7 8 rfl rfl rfl rfl rfl) $$ HW; iintro HW
  iapply (step_signal m K c 1 1 2 rfl rfl (by decide) (by revert c; decide)) $$ HS; iintro HS
  iapply (WP_ret c)
  iapply Hk
  isplitl [HW] <;> iassumption

/-- Six more peers are signalled. -/
theorem part3_ok (c : Dev nD) (v2 v49 w : BitVec 32) {Q : (Σ' (v73 : BitVec 32), BitVec 32) → sProp 𝕄} :
    SG m K c 2
      ⊢ iprop((SG m K c 8 -∗ Q ⟨Scalar.remsi (Scalar.addi v2 8#32) 16#32, 1#32⟩)
        -∗ WP c (atB (k0_part3 (F := F)) c v2 (SemArray.scalar (sig.barrier 0 rfl)) v49 w) Q) := by
  simp only [k0_part3_eq_skeleton]
  unfold k0_part3_skel
  simp only [semSignalWord, Prog.lift, Prog.bind_op, Prog.bind_ret, Prog.pure_eq_ret]
  iintro HS Hk
  iapply (step_signal m K c 2 2 3 rfl rfl (by decide) (by revert c; decide)) $$ HS; iintro HS
  iapply (step_signal m K c 3 3 4 rfl rfl (by decide) (by revert c; decide)) $$ HS; iintro HS
  iapply (step_signal m K c 4 4 5 rfl rfl (by decide) (by revert c; decide)) $$ HS; iintro HS
  iapply (step_signal m K c 5 5 6 rfl rfl (by decide) (by revert c; decide)) $$ HS; iintro HS
  iapply (step_signal m K c 6 6 7 rfl rfl (by decide) (by revert c; decide)) $$ HS; iintro HS
  iapply (step_signal m K c 7 7 8 rfl rfl (by decide) (by revert c; decide)) $$ HS; iintro HS
  iapply (WP_ret c)
  iapply Hk
  iexact HS

/-- Six more peers are signalled. -/
theorem part4_ok (c : Dev nD) (v2 v49 w : BitVec 32) {Q : (Σ' (v73 : BitVec 32), BitVec 32) → sProp 𝕄} :
    SG m K c 8
      ⊢ iprop((SG m K c 14 -∗ Q ⟨Scalar.remsi (Scalar.addi v2 14#32) 16#32, 1#32⟩)
        -∗ WP c (atB (k0_part4 (F := F)) c v2 (SemArray.scalar (sig.barrier 0 rfl)) v49 w) Q) := by
  simp only [k0_part4_eq_skeleton]
  unfold k0_part4_skel
  simp only [semSignalWord, Prog.lift, Prog.bind_op, Prog.bind_ret, Prog.pure_eq_ret]
  iintro HS Hk
  iapply (step_signal m K c 8 8 9 rfl rfl (by decide) (by revert c; decide)) $$ HS; iintro HS
  iapply (step_signal m K c 9 9 10 rfl rfl (by decide) (by revert c; decide)) $$ HS; iintro HS
  iapply (step_signal m K c 10 10 11 rfl rfl (by decide) (by revert c; decide)) $$ HS; iintro HS
  iapply (step_signal m K c 11 11 12 rfl rfl (by decide) (by revert c; decide)) $$ HS; iintro HS
  iapply (step_signal m K c 12 12 13 rfl rfl (by decide) (by revert c; decide)) $$ HS; iintro HS
  iapply (step_signal m K c 13 13 14 rfl rfl (by decide) (by revert c; decide)) $$ HS; iintro HS
  iapply (WP_ret c)
  iapply Hk
  iexact HS

/-- Where the device's own block lies. -/
theorem ownBlk (c : Dev nD) : k0_off1 c = ![128 * c.val, 0] := by revert c; decide
theorem ownSlot (c : Dev nD) : k0_off2 c = ![c.val, 0, 0] := by revert c; decide
theorem ownCol (c : Dev nD) : k0_off3 c = ![0, 128 * c.val] := by revert c; decide
theorem zero2 : (![0, 0] : Fin 2 → ℕ) = fun _ => 0 := funext fun a => by fin_cases a <;> rfl

theorem SG_end (c : Dev nD) : SG m K c 16 ⊢ iprop(CX m K ∗ OW (F := F) c (owR c 1)) := by
  unfold SG
  rw [owB_end, add_zero]
  iintro ⟨#HX, HO, -⟩
  isplitr
  · iexact HX
  iexact HO

/-- The store of the device's own block to its slot, and of its slot to its columns. -/
theorem own_slotP (c : Dev nD) (f : S16x128x128.Idx → Elt F .bf16) :
    slotP c c (((gV : Memref sig .tc .vmem S16x128x128 .bf16).access (slotR c)).write (Elt F) f
          (k0_pay2 ((bV : Memref sig .tc .vmem S2048x128 .bf16).view.readAt (Elt F) (blkR c).toLoadRect (XB m c))) Finset.univ)
      ⊢ slotP c c (GAT m c) := by
  unfold slotP
  exact Entails.of_eq (pointsTo_congr fun i hi => own_stored m f c _ i (mem_slot.mp hi))

theorem own_rows (c : Dev nD) (f : S128x2048.Idx → Elt F .bf16) :
    rvP c (((rV : Memref sig .tc .vmem S128x2048 .bf16).access (colR c)).write (Elt F) f
          (k0_pay3 ((gV : Memref sig .tc .vmem S16x128x128 .bf16).view.readAt (Elt F) (slotR c).toLoadRect (GAT m c))) Finset.univ)
      ⊢ rows m c 0 := by
  have e : k0_pay3 ((gV : Memref sig .tc .vmem S16x128x128 .bf16).view.readAt (Elt F) (slotR c).toLoadRect (GAT m c)) = slotVal m c c :=
    (shapeCast_self _ _).trans (slot_load m (GAT m c) c c (fun _ _ => rfl) _)
  rw [e]
  unfold rows
  iintro H
  iexists _
  isplitr
  rotate_left
  · iexact H
  ipureintro
  intro i hi
  rw [col_stored, if_pos (by omega)]

/-- The rounded operand, as stored whole. -/
theorem xb_stored (c : Dev nD) (f : S2048x128.Idx → Elt F .bf16) :
    bvP c (((bV : Memref sig .tc .vmem S2048x128 .bf16).access (Rect.unit (s := S2048x128) ![0, 0] S2048x128.size inb_S2048x128_S2048x128_0_0)).write (Elt F) f
        (k0_pay1 ((xV : Memref sig .tc .vmem S2048x128 .f32).view.readAt (Elt F)
          (Rect.unit (s := S2048x128) ![0, 0] S2048x128.size inb_S2048x128_S2048x128_0_0).toLoadRect (X m c))) Finset.univ)
      ⊢ bvP c (XB m c) := by
  refine Entails.of_eq (congrArg (bvP c) ?_)
  refine (Memref.write_access_unit_zero_univ (Elt F) cc0_scratch1 zero2 _ f _).trans ?_
  exact congrArg k0_pay1 (Memref.readAt_unit_zero (Elt F) cc0_scratch0 zero2 _ (X m c))

/-- The device's own block, moved to its slot and its columns. -/
theorem step_own (c : Dev nD)
    {o₁ : Fin 2 → ℕ} {i₁ : ∀ a, o₁ a + S128x128.size a ≤ S2048x128.size a} (h₁ : o₁ = ![128 * c.val, 0])
    {o₂ : Fin 3 → ℕ} {i₂ : ∀ a, o₂ a + S1x128x128.size a ≤ S16x128x128.size a} (h₂ : o₂ = ![c.val, 0, 0])
    {o₃ : Fin 2 → ℕ} {i₃ : ∀ a, o₃ a + S128x128.size a ≤ S128x2048.size a} (h₃ : o₃ = ![0, 128 * c.val])
    {l₁ l₂ l₃ s₁ s₂ s₃ s₄} {α : Type} {Q : α → sProp 𝕄} {k : PUnit → Prog (TpuEff nD τ sig (Elt F) Λ₀ .tc) α} :
    iprop(bvP c (XB m c) ∗ (∃ f, slotP c c f) ∗ (∃ f, rvP c f))
      ⊢ iprop(((bvP c (XB m c) ∗ slotP c c (GAT m c) ∗ rows m c 0) -∗ WP c (k ⟨⟩) Q)
        -∗ WP c (.op (.load bV (Rect.unit (s := S2048x128) o₁ S128x128.size i₁).toLoadRect l₁) fun v =>
          .op (.load gV (Rect.unit (s := S16x128x128) o₂ S1x128x128.size i₂).toLoadRect l₂) fun _ =>
            .op (.store gV (Rect.unit (s := S16x128x128) o₂ S1x128x128.size i₂) (k0_pay2 v) Finset.univ s₁ s₂) fun _ =>
              .op (.load gV (Rect.unit (s := S16x128x128) o₂ S1x128x128.size i₂).toLoadRect l₂) fun w =>
                .op (.load rV (Rect.unit (s := S128x2048) o₃ S128x128.size i₃).toLoadRect l₃) fun _ =>
                  .op (.store rV (Rect.unit (s := S128x2048) o₃ S128x128.size i₃) (k0_pay3 w) Finset.univ s₃ s₄) k) Q) := by
  subst h₁ h₂ h₃
  iintro ⟨Hb, ⟨%fs, Hs⟩, ⟨%fr, Hr⟩⟩ Hk
  unfold bvP
  iapply (wp_load 𝒱₀ (c : Thread nD τ) none Set.univ (m := bV) (by rw [View.set_whole]; exact Finset.subset_univ _)) $$ Hb; iintro Hb
  unfold slotP
  iapply (wp_load 𝒱₀ (c : Thread nD τ) none Set.univ (m := gV) (S := (slotM c).view.set)
    (fun i hi => by obtain ⟨x, hx, rfl⟩ := Finset.mem_map.mp hi; rw [slot_set]; exact hx)) $$ Hs; iintro Hs
  iapply (wp_store 𝒱₀ (c : Thread nD τ) none Set.univ (m := gV) (r := slotR c) (Mk := Finset.univ) (S := (slotM c).view.set)
    (fun i hi => by rw [slot_set]; exact (Iff.of_eq (congrArg (i ∈ ·) (View.set_slice_whole cc0_scratch2 (slotR c)))).mp (View.setOn_subset_set _ _ hi))) $$ Hs; iintro Hs
  ihave Hs := (own_slotP m c fs) $$ [Hs]
  · unfold slotP; iexact Hs
  unfold slotP
  iapply (wp_load 𝒱₀ (c : Thread nD τ) none Set.univ (m := gV) (S := (slotM c).view.set)
    (fun i hi => by obtain ⟨x, hx, rfl⟩ := Finset.mem_map.mp hi; rw [slot_set]; exact hx)) $$ Hs; iintro Hs
  unfold rvP
  iapply (wp_load 𝒱₀ (c : Thread nD τ) none Set.univ (m := rV) (by rw [View.set_whole]; exact Finset.subset_univ _)) $$ Hr; iintro Hr
  iapply (wp_store 𝒱₀ (c : Thread nD τ) none Set.univ (m := rV) (r := colR c) (Mk := Finset.univ) (by rw [View.set_whole]; exact Finset.subset_univ _)) $$ Hr; iintro Hr
  iapply Hk
  isplitl [Hb]; · iexact Hb
  isplitl [Hs]; · iexact Hs
  iapply (own_rows m c fr)
  unfold rvP
  iexact Hr

/-- The last two peers are signalled, the operand is rounded, the device's own block put in place, and the barrier passed. -/
theorem part5_ok (c : Dev nD) (v2 v97 w : BitVec 32) {Q : BitVec 32 → sProp 𝕄} :
    iprop(SG m K c 14 ∗ (cred (tallyAt (cell c lX) () NX) ∗ atPos ER (cell c lX) 0 ∅ 0)
        ∗ (cred (tallyAt (cell c lB) () 15) ∗ atPos ER (cell c lB) 0 ∅ 0)
        ∗ (∃ f, bvP c f) ∗ (∃ f, slotP c c f) ∗ (∃ f, rvP c f))
      ⊢ iprop(((CX m K ∗ OW c (owR c 1) ∗ (atPos ER (cell c lX) 1 ∅ 0 ∗ xvP c (X m c) ∗ xaP c (X m c))
          ∗ (atPos ER (cell c lB) 1 ∅ 0 ∗ bigSep ((Finset.univ : Finset (Fin 16)).erase 0) (fun d => (iprop(∃ f, slotP (peer c d) c f) : sProp 𝕄)))
          ∗ bvP c (XB m c) ∗ slotP c c (GAT m c) ∗ rows m c 0) -∗ Q (Scalar.remsi (Scalar.addi v2 1#32) 16#32))
        -∗ WP c (atB (k0_part5 (F := F)) c v2 (SemArray.scalar (sig.barrier 0 rfl)) v97 w) Q) := by
  simp only [k0_part5_eq_skeleton]
  unfold k0_part5_skel
  simp only [semSignalWord, semWaitWord, Prog.lift, Prog.bind_op, Prog.bind_ret, Prog.pure_eq_ret]
  iintro ⟨HS, ⟨Hcx, Hax⟩, ⟨Hcb, Hab⟩, ⟨%fb, Hb⟩, ⟨%fs, Hs⟩, ⟨%fr, Hr⟩⟩ Hk
  iapply (step_signal m K c 14 14 15 rfl rfl (by decide) (by revert c; decide)) $$ HS; iintro HS
  iapply (step_signal m K c 15 15 16 rfl rfl (by decide) (by revert c; decide)) $$ HS; iintro HS
  ihave HS := (SG_end m K c) $$ HS
  icases HS with ⟨#HX, HO⟩
  iapply (step_wait m K c lX 1 NX (dut_X c) amt_X (.inl (by decide +revert))
    (fun Kt => (wpE_waitDma2_eq 𝒱₀ (c : Thread nD τ) none Set.univ Kt)) (by rfl)) $$ [HO Hcx Hax]
  · isplitr; · iexact HX
    isplitl [HO]; · iexact HO
    isplitl [Hcx] <;> iassumption
  iintro ⟨HO, Hax, Hp⟩
  ihave Hp := (Entails.of_eq (pay_X m c 0)) $$ Hp
  icases Hp with ⟨Hxv, Hxa⟩
  unfold xvP bvP
  iapply (wp_load 𝒱₀ (c : Thread nD τ) none Set.univ (m := xV) (by rw [View.set_whole]; exact Finset.subset_univ _)) $$ Hxv; iintro Hxv
  iapply (wp_load 𝒱₀ (c : Thread nD τ) none Set.univ (m := bV) (by rw [View.set_whole]; exact Finset.subset_univ _)) $$ Hb; iintro Hb
  iapply (wp_store 𝒱₀ (c : Thread nD τ) none Set.univ (m := bV) (r := Rect.unit (s := S2048x128) ![0, 0] S2048x128.size inb_S2048x128_S2048x128_0_0) (Mk := Finset.univ) (by rw [View.set_whole]; exact Finset.subset_univ _)) $$ Hb; iintro Hb
  ihave Hb := (xb_stored m c fb) $$ [Hb]
  · unfold bvP; iexact Hb
  iapply (step_own m c (ownBlk c) (ownSlot c) (ownCol c)) $$ [Hb Hs Hr]
  · isplitl [Hb]; · iexact Hb
    isplitl [Hs]; · iexists fs; iexact Hs
    iexists fr; iexact Hr
  iintro ⟨Hb, Hs, Hr⟩
  iapply (step_barrier m K c) $$ [HO Hcb Hab]
  · isplitr; · iexact HX
    isplitl [HO]; · iexact HO
    isplitl [Hcb] <;> iassumption
  iintro ⟨HO, Hab, Hp⟩
  iapply (WP_ret c)
  iapply Hk
  isplitr; · iexact HX
  isplitl [HO]; · iexact HO
  isplitl [Hax Hxv Hxa]
  · isplitl [Hax]; · iexact Hax
    isplitl [Hxv] <;> iassumption
  isplitl [Hab Hp]
  · isplitl [Hab] <;> iassumption
  isplitl [Hb]
  · unfold bvP; iexact Hb
  isplitl [Hs] <;> iassumption

end Cert.A2A

end
-- ==== Proof.PartD.lean ====
/-
The result: scaled, copied out, and the transfers' ends waited for.
-/
module

public import proofs.«01_k».proof.Proof.PartA

@[expose] public section

noncomputable section

namespace Cert.A2A

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)
variable (K : Dev nD × SemLoc sig → ℕ)

/-- The result, as stored whole. -/
theorem yv_stored (c : Dev nD) (f : S128x2048.Idx → Elt F .f32) :
    yvP c (((yV : Memref sig .tc .vmem S128x2048 .f32).access (Rect.unit (s := S128x2048) ![0, 0] S128x2048.size inb_S128x2048_S128x2048_0_0)).write (Elt F) f
        (k0_pay27 (acc7 m c) k0_pay26) Finset.univ)
      ⊢ yvP c (outAt m c) :=
  Entails.of_eq (congrArg (yvP c) (Memref.write_access_unit_zero_univ (Elt F) cc0_scratch5 zero2 _ f _))

theorem SW_intro (c : Dev nD) (t : ℕ) : iprop((CX m K ∗ OW c (owR c 16)) ∗ fam t (dTodo c) (dDone m c)) ⊢ SW m K c t := by
  unfold SW
  iintro ⟨⟨HX, HO⟩, H⟩
  isplitl [HX]; · iexact HX
  isplitl [HO] <;> iassumption

/-- The result is stored and copied out, and the first three transfers' ends are waited for. -/
theorem part17_ok (c : Dev nD) {Q : PUnit → sProp 𝕄} :
    iprop((CX m K ∗ OW c (owR c 16)) ∗ fam 1 (dTodo c) (dDone m c) ∗ (∃ f, yvP c f) ∗ (∃ f, oaP c f) ∗ dutyTok ER (cell c lO) 0 0 ∗ atPos ER (cell c lO) 0 ∅ 0)
      ⊢ iprop(((SW m K c 4 ∗ atPos ER (cell c lO) 1 ∅ 0 ∗ oaP c (outAt m c) ∗ yvP c (outAt m c)) -∗ Q ⟨⟩)
        -∗ WP c (atB (k0_part17 (F := F)) c (acc7 m c) k0_pay26) Q) := by
  simp only [k0_part17_eq_skeleton]
  unfold k0_part17_skel
  simp only [Prog.lift, Prog.bind_op, Prog.bind_ret, Prog.pure_eq_ret]
  iintro ⟨⟨#HX, HO⟩, HS, ⟨%fy, Hy⟩, Ho, Htok, Hat⟩ Hk
  unfold yvP
  iapply (wp_load 𝒱₀ (c : Thread nD τ) none Set.univ (m := yV) (by rw [View.set_whole]; exact Finset.subset_univ _)) $$ Hy; iintro Hy
  iapply (wp_store 𝒱₀ (c : Thread nD τ) none Set.univ (m := yV) (r := Rect.unit (s := S128x2048) ![0, 0] S128x2048.size inb_S128x2048_S128x2048_0_0)
    (Mk := Finset.univ) (by rw [View.set_whole]; exact Finset.subset_univ _)) $$ Hy; iintro Hy
  ihave Hy := (yv_stored m c fy) $$ [Hy]
  · unfold yvP; iexact Hy
  iapply (step_ocopy m K c rfl) $$ [Hy Ho Htok]
  · isplitr; · iexact HX
    isplitl [Hy]; · iexact Hy
    isplitl [Ho] <;> iassumption
  iintro Hc
  iapply (step_wait m K c lO 16 NO (dut_O c) amt_O (.inr (owR_end c))
    (fun Kt => (wpE_waitDma2_eq 𝒱₀ (c : Thread nD τ) none Set.univ Kt)) (by rfl)) $$ [HO Hc Hat]
  · isplitr; · iexact HX
    isplitl [HO]; · iexact HO
    isplitl [Hc] <;> iassumption
  iintro ⟨HO, Hat, Hp⟩
  ihave Hp := (Entails.of_eq (pay_O m c 0)) $$ Hp
  icases Hp with ⟨Ho, Hy⟩
  ihave HS := (SW_intro m K c 1) $$ [HO HS]
  · isplitl [HO]
    · isplitr; · iexact HX
      iexact HO
    iexact HS
  iapply (step_swait m K c 1 1 2 rfl rfl (by decide) (by rfl) (by rfl)) $$ HS; iintro HS
  iapply (step_swait m K c 2 2 3 rfl rfl (by decide) (by rfl) (by rfl)) $$ HS; iintro HS
  iapply (step_swait m K c 3 3 4 rfl rfl (by decide) (by rfl) (by rfl)) $$ HS; iintro HS
  iapply (WP_ret c)
  iapply Hk
  isplitl [HS]; · iexact HS
  isplitl [Hat]; · iexact Hat
  isplitl [Ho]; · iexact Ho
  unfold yvP
  iexact Hy

theorem part18_ok (c : Dev nD) {Q : PUnit → sProp 𝕄} :
    SW m K c 4 ⊢ iprop((SW m K c 10 -∗ Q ⟨⟩) -∗ WP c (atB (k0_part18 (F := F)) c) Q) := by
  simp only [k0_part18_eq_skeleton]
  unfold k0_part18_skel
  simp only [Prog.lift, Prog.bind_op, Prog.bind_ret, Prog.pure_eq_ret]
  iintro HS Hk
  iapply (step_swait m K c 4 4 5 rfl rfl (by decide) (by rfl) (by rfl)) $$ HS; iintro HS
  iapply (step_swait m K c 5 5 6 rfl rfl (by decide) (by rfl) (by rfl)) $$ HS; iintro HS
  iapply (step_swait m K c 6 6 7 rfl rfl (by decide) (by rfl) (by rfl)) $$ HS; iintro HS
  iapply (step_swait m K c 7 7 8 rfl rfl (by decide) (by rfl) (by rfl)) $$ HS; iintro HS
  iapply (step_swait m K c 8 8 9 rfl rfl (by decide) (by rfl) (by rfl)) $$ HS; iintro HS
  iapply (step_swait m K c 9 9 10 rfl rfl (by decide) (by rfl) (by rfl)) $$ HS; iintro HS
  iapply (WP_ret c)
  iapply Hk
  iexact HS

theorem part19_ok (c : Dev nD) {Q : PUnit → sProp 𝕄} :
    SW m K c 10 ⊢ iprop((SW m K c 15 -∗ Q ⟨⟩) -∗ WP c (atB (k0_part19 (F := F)) c) Q) := by
  simp only [k0_part19_eq_skeleton]
  unfold k0_part19_skel
  simp only [Prog.lift, Prog.bind_op, Prog.bind_ret, Prog.pure_eq_ret]
  iintro HS Hk
  iapply (step_swait m K c 10 10 11 rfl rfl (by decide) (by rfl) (by rfl)) $$ HS; iintro HS
  iapply (step_swait m K c 11 11 12 rfl rfl (by decide) (by rfl) (by rfl)) $$ HS; iintro HS
  iapply (step_swait m K c 12 12 13 rfl rfl (by decide) (by rfl) (by rfl)) $$ HS; iintro HS
  iapply (step_swait m K c 13 13 14 rfl rfl (by decide) (by rfl) (by rfl)) $$ HS; iintro HS
  iapply (step_swait m K c 14 14 15 rfl rfl (by decide) (by rfl) (by rfl)) $$ HS; iintro HS
  iapply (WP_ret c)
  iapply Hk
  iexact HS

end Cert.A2A

end
-- ==== Proof.Pieces.lean ====
/- The buffers held whole and piece by piece: the gathered buffer's slots, the rounded operand's row blocks, the weight
   buffer's slots and the weight's row blocks each make up their buffer, so it splits into them and they join to it. -/
module

public import proofs.«01_k».proof.Proof.Steps
public import Idealize.ShloMosaic.Lib.Ring

@[expose] public section

noncomputable section

namespace Cert.A2A

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## Families -/

/-- A family of pairs is a pair of families. -/
theorem bigSep_pair {ι : Type} [DecidableEq ι] (s : Finset ι) (Φ Ψ : ι → sProp 𝕄) :
    bigSep s (fun i => iprop(Φ i ∗ Ψ i)) = iprop(bigSep s Φ ∗ bigSep s Ψ) := BI.bigSep_sep _ _ _

/-- A family over a type is the member at `s` and the rest. -/
theorem bigSep_at {ι : Type} [Fintype ι] [DecidableEq ι] (Φ : ι → sProp 𝕄) (s : ι) :
    bigSep Finset.univ Φ = iprop(Φ s ∗ bigSep (Finset.univ.erase s) Φ) := BI.bigSep_univ_split s

/-- A family is weakened member by member. -/
theorem bigSep_each {ι : Type} [Fintype ι] {Φ Ψ : ι → sProp 𝕄} (h : ∀ i, Φ i ⊢ Ψ i) : bigSep Finset.univ Φ ⊢ bigSep Finset.univ Ψ :=
  BI.bigSep_mono fun i _ => h i

theorem bigSep_each_on {ι : Type} {s : Finset ι} {Φ Ψ : ι → sProp 𝕄} (h : ∀ i ∈ s, Φ i ⊢ Ψ i) : bigSep s Φ ⊢ bigSep s Ψ := BI.bigSep_mono h

/-! ## The element sets partition their buffers -/

/-- A family of sets told apart by one number of each index partitions the indices. -/
theorem cover_of {α β : Type} [Fintype α] [Fintype β] [DecidableEq β] [DecidableEq α] (I : α → Finset β) (g : β → α) (h : ∀ a b, b ∈ I a ↔ g b = a) :
    (∀ a a', a ≠ a' → Disjoint (I a) (I a')) ∧ Finset.univ.biUnion I = Finset.univ := by
  refine ⟨fun a a' hne => Finset.disjoint_left.mpr fun b hb hb' => hne ?_, ?_⟩
  · rw [← (h a b).mp hb, (h a' b).mp hb']
  · ext b
    simp only [Finset.mem_biUnion, Finset.mem_univ, true_and, iff_true]
    exact ⟨g b, (h _ b).mpr rfl⟩

/-- The pieces' element sets. -/
abbrev wslotS (e : Fin 8) : Finset S8x256x2048.Idx := (wslotM e).view.set
abbrev wrowS (e : Fin 8) : Finset S2048x2048.Idx := (wrowM e).view.set
abbrev blkS (e : Fin 16) : Finset S2048x128.Idx := (blkM e).view.set
abbrev slotS (e : Fin 16) : Finset S16x128x128.Idx := (slotM e).view.set

theorem blk_cover : (∀ e e' : Fin 16, e ≠ e' → Disjoint (blkS e) (blkS e')) ∧ Finset.univ.biUnion blkS = Finset.univ :=
  cover_of blkS (fun i : S2048x128.Idx => ⟨(i 0 : Nat) / 128, by have h : (i 0 : Nat) < 2048 := (i 0).isLt; omega⟩)
    fun e i => mem_blk.trans ⟨fun h => Fin.ext h, fun h => congrArg Fin.val h⟩
theorem slot_cover : (∀ e e' : Fin 16, e ≠ e' → Disjoint (slotS e) (slotS e')) ∧ Finset.univ.biUnion slotS = Finset.univ :=
  cover_of slotS (fun i : S16x128x128.Idx => ⟨(i 0 : Nat), (i 0).isLt⟩)
    fun e i => mem_slot.trans (Fin.ext_iff).symm
theorem wslot_cover : (∀ e e' : Fin 8, e ≠ e' → Disjoint (wslotS e) (wslotS e')) ∧ Finset.univ.biUnion wslotS = Finset.univ :=
  cover_of wslotS (fun i : S8x256x2048.Idx => ⟨(i 0 : Nat), (i 0).isLt⟩)
    fun e i => mem_wslot.trans (Fin.ext_iff).symm
theorem wrow_cover : (∀ e e' : Fin 8, e ≠ e' → Disjoint (wrowS e) (wrowS e')) ∧ Finset.univ.biUnion wrowS = Finset.univ :=
  cover_of wrowS (fun i : S2048x2048.Idx => ⟨(i 0 : Nat) / 256, by have h : (i 0 : Nat) < 2048 := (i 0).isLt; omega⟩)
    fun e i => mem_wrow.trans ⟨fun h => Fin.ext h, fun h => congrArg Fin.val h⟩

/-! ## The buffers whole -/

theorem xvP_eq (c : Dev nD) (f) : xvP (F := F) c f = (((c : Thread nD τ).loc cc0_scratch0) ↦{fullShare} f) := by unfold xvP; rw [View.set_whole]
theorem bvP_eq (c : Dev nD) (f) : bvP (F := F) c f = (((c : Thread nD τ).loc cc0_scratch1) ↦{fullShare} f) := by unfold bvP; rw [View.set_whole]
theorem rvP_eq (c : Dev nD) (f) : rvP (F := F) c f = (((c : Thread nD τ).loc cc0_scratch3) ↦{fullShare} f) := by unfold rvP; rw [View.set_whole]
theorem yvP_eq (c : Dev nD) (f) : yvP (F := F) c f = (((c : Thread nD τ).loc cc0_scratch5) ↦{fullShare} f) := by unfold yvP; rw [View.set_whole]
theorem xaP_eq (c : Dev nD) (f) : xaP (F := F) c f = (((c : Thread nD τ).loc main_arg0) ↦{fullShare} f) := by unfold xaP; rw [View.set_whole]
theorem oaP_eq (c : Dev nD) (f) : oaP (F := F) c f = (((c : Thread nD τ).loc main_v1) ↦{fullShare} f) := by unfold oaP; rw [View.set_whole]

theorem gv_split (c : Dev nD) (f : S16x128x128.Idx → Elt F .bf16) :
    (((c : Thread nD τ).loc cc0_scratch2) ↦{fullShare} f : sProp 𝕄) = bigSep Finset.univ (fun j => (slotP c j f : sProp 𝕄)) :=
  Ring.pointsTo_blocks (ℓ := (c : Thread nD τ).loc cc0_scratch2) slotS slot_cover.1 slot_cover.2 f
theorem wv_split (c : Dev nD) (f : S8x256x2048.Idx → Elt F .f32) :
    (((c : Thread nD τ).loc cc0_scratch4) ↦{fullShare} f : sProp 𝕄) = bigSep Finset.univ (fun k => (wslotP c k f : sProp 𝕄)) :=
  Ring.pointsTo_blocks (ℓ := (c : Thread nD τ).loc cc0_scratch4) wslotS wslot_cover.1 wslot_cover.2 f
theorem wa_split (c : Dev nD) (f : S2048x2048.Idx → Elt F .f32) :
    (((c : Thread nD τ).loc main_arg1) ↦{fullShare} f : sProp 𝕄) = bigSep Finset.univ (fun k => (wrowP c k f : sProp 𝕄)) :=
  Ring.pointsTo_blocks (ℓ := (c : Thread nD τ).loc main_arg1) wrowS wrow_cover.1 wrow_cover.2 f

/-- The devices in the order of the distances from `c`. -/
def around (c : Dev nD) : Fin 16 ≃ Dev nD := Equiv.ofBijective (peer c) ((Fintype.bijective_iff_injective_and_card _).mpr ⟨peer_inj c, rfl⟩)

/-- The rounded operand's buffer is its sixteen row blocks, in the order of the peers. -/
theorem bv_split (c : Dev nD) (f : S2048x128.Idx → Elt F .bf16) :
    bvP c f = bigSep Finset.univ (fun d => (blkP c (peer c d) f : sProp 𝕄)) := by
  rw [bvP_eq]
  exact (Ring.pointsTo_blocks (ℓ := (c : Thread nD τ).loc cc0_scratch1) blkS blk_cover.1 blk_cover.2 f).trans
    (bigSep_univ_equiv (around c) fun e => (blkP c e f : sProp 𝕄))
/-- The gathered buffer likewise. -/
theorem gv_around (c : Dev nD) (f : S16x128x128.Idx → Elt F .bf16) :
    (((c : Thread nD τ).loc cc0_scratch2) ↦{fullShare} f : sProp 𝕄) = bigSep Finset.univ (fun d => (slotP c (peer c d) f : sProp 𝕄)) :=
  (gv_split c f).trans (bigSep_univ_equiv (around c) fun e => (slotP c e f : sProp 𝕄))

end Cert.A2A

end
-- ==== Proof.Ghost.lean ====
/- The ghost state at the launch: every cell's invariant allocated once for the machine, each device's positions, and the
   duty tokens and the launch's credits dealt to the devices that use them. -/
module

public import proofs.«01_k».proof.Proof.Pieces

@[expose] public section

noncomputable section

namespace Cert.A2A

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## A device's cells, kind by kind -/

abbrev Kinds := Unit ⊕ Fin 16 ⊕ Fin 16 ⊕ Fin 8 ⊕ Unit ⊕ Unit
/-- The barrier's cell, the sends', the receives', the weight copies', the operand's and the result's. -/
def kindLoc : Kinds → SemLoc sig
  | .inl _ => lB
  | .inr (.inl d) => lS d
  | .inr (.inr (.inl j)) => lR j
  | .inr (.inr (.inr (.inl k))) => lW k
  | .inr (.inr (.inr (.inr (.inl _)))) => lX
  | .inr (.inr (.inr (.inr (.inr _)))) => lO
theorem kindLoc_inj : Function.Injective kindLoc := by decide
def kinds : Kinds ≃ SemLoc sig := Equiv.ofBijective kindLoc ((Fintype.bijective_iff_injective_and_card _).mpr ⟨kindLoc_inj, by decide⟩)

theorem bigSep_unit (Φ : Unit → sProp 𝕄) : bigSep Finset.univ Φ = Φ () := bigSep_singleton

/-- A family over a device's cells. -/
theorem cells_split (Φ : SemLoc sig → sProp 𝕄) :
    bigSep Finset.univ Φ = iprop(Φ lB ∗ bigSep Finset.univ (fun d => Φ (lS d)) ∗ bigSep Finset.univ (fun j => Φ (lR j))
      ∗ bigSep Finset.univ (fun k => Φ (lW k)) ∗ Φ lX ∗ Φ lO) := by
  rw [bigSep_univ_equiv kinds Φ, bigSep_univ_sum, bigSep_univ_sum, bigSep_univ_sum, bigSep_univ_sum, bigSep_univ_sum,
    bigSep_unit, bigSep_unit, bigSep_unit]
  rfl

/-! ## What the launch mints -/

abbrev kcell (p : Dev nD × SemLoc sig) : GSem nD τ sig := cell p.1 p.2
theorem kcell_inj : Function.Injective (kcell : Dev nD × SemLoc sig → GSem nD τ sig) := by
  rintro ⟨c, l⟩ ⟨c', l'⟩ h
  have h₁ : c = c' := congrArg (fun g : GSem nD τ sig => g.1.1) h
  have h₂ : l = l' := congrArg Prod.snd h
  rw [h₁, h₂]
def allCells : Finset (GSem nD τ sig) := Finset.univ.map ⟨kcell, kcell_inj⟩

abbrev tokOf (p : (Dev nD × SemLoc sig) × Fin 16) : GSem nD τ sig × ℕ × Fin 16 := (kcell p.1, 0, p.2)
theorem tokOf_inj : Function.Injective (tokOf : (Dev nD × SemLoc sig) × Fin 16 → GSem nD τ sig × ℕ × Fin 16) := by
  rintro ⟨p, e⟩ ⟨p', e'⟩ h
  have h₁ : p = p' := kcell_inj (congrArg (fun x : GSem nD τ sig × ℕ × Fin 16 => x.1) h)
  have h₂ : e = e' := congrArg (fun x : GSem nD τ sig × ℕ × Fin 16 => x.2.2) h
  rw [h₁, h₂]
def allToks : Finset (GSem nD τ sig × ℕ × Fin 16) := Finset.univ.map ⟨tokOf, tokOf_inj⟩

def u₀ : UU := (initOf (Pipeline.cells cfgs cellOf_inj) (Pipeline.launchToks cfgs cellOf_inj), initOf allCells allToks)

/-- The tokens of one cell's duties, -/
def toksAt (c : Dev nD) (l : SemLoc sig) : sProp 𝕄 := bigSep Finset.univ fun e : Fin 16 => (dutyTok ER (cell c l) 0 e : sProp 𝕄)
/-- and what the launch deals device `c`. -/
def G (c : Dev nD) : sProp 𝕄 :=
  iprop((bigSep Finset.univ fun l : SemLoc sig => roundState ER (sched m) (cell c l) 0)
    ∗ (bigSep Finset.univ fun l : SemLoc sig => iprop(atPos ER (cell c l) 0 ∅ 0 ∗ reached ER (cell c l) 0))
    ∗ bigSep Finset.univ fun l : SemLoc sig => toksAt c l)

theorem fund_cells : BI.own (ER (initOf allCells allToks)) ⊢ (|==> bigSep Finset.univ (G (F := F) m) : sProp 𝕄) := by
  have hX (Φ : GSem nD τ sig → sProp 𝕄) : bigSep allCells Φ = bigSep Finset.univ fun c : Dev nD => bigSep Finset.univ fun l : SemLoc sig => Φ (cell c l) := by
    unfold allCells; rw [bigSep_map, bigSep_univ_prod]; rfl
  have hT : bigSep allToks (fun x => (dutyTok ER x.1 x.2.1 x.2.2 : sProp 𝕄))
      = bigSep Finset.univ fun c : Dev nD => bigSep Finset.univ fun l : SemLoc sig => toksAt c l := by
    unfold allToks; rw [bigSep_map, bigSep_univ_prod, bigSep_univ_prod]; rfl
  iintro H
  imod (Rounds.fund ER (sched m) allCells allToks) $$ H with ⟨Hst, Hr, Hat, Htok⟩
  imodintro
  ihave Hst := (Entails.of_eq (hX fun g => roundState ER (sched m) g 0)) $$ Hst
  ihave Hat := (Entails.of_eq (hX fun g => atPos ER g 0 ∅ 0)) $$ Hat
  ihave Hr := (Entails.of_eq (hX fun g => reached ER g 0)) $$ Hr
  ihave Htok := (Entails.of_eq hT) $$ Htok
  unfold G; simp only [bigSep_pair]
  isplitl [Hst]; · iexact Hst
  isplitl [Hat Hr]
  · isplitl [Hat] <;> iassumption
  iexact Htok

/-! ## The cells opened -/

/-- The kernel's own semaphores. -/
abbrev osem : Fin 42 → SemLoc sig := fun i => .dma i
theorem ownSemFacts : Pipeline.OwnSemFacts cfg0.spec osem := by decide

theorem ownSems0_eq (c : Dev nD) : (Pipeline.ownSems0 (Ix := Unit) (Name := ℕ) (U := UU) (Lvl := ℕ) (Val := Elt F) (τ := τ) osem c : sProp 𝕄)
    = bigSep Finset.univ fun i : Fin 42 => semVal (cell c (.dma i)) 0 := rfl
theorem unscopedSems0_eq (c : Dev nD) : (unscopedSems0 c : sProp 𝕄) = semVal (cell c lB) 0 := by
  unfold unscopedSems0; rw [bigSep_eq_bigSepL_of_eq [SemLoc.reg barS] (by decide) (by decide)]; rfl
/-- They are all of a device's cells. -/
theorem sems0_eq (c : Dev nD) :
    (bigSep Finset.univ fun l : SemLoc sig => semVal (cell c l) 0 : sProp 𝕄)
      = iprop(unscopedSems0 c ∗ Pipeline.ownSems0 (Ix := Unit) (Name := ℕ) (U := UU) (Lvl := ℕ) (Val := Elt F) (τ := τ) osem c) := by
  rw [ownSems0_eq, unscopedSems0_eq, bigSep_univ_equiv (SemLoc.equivSum sig).symm, bigSep_univ_sum]
  exact congrArg (fun P => iprop(P ∗ bigSep Finset.univ fun i : Fin 42 => semVal (cell c (.dma i)) 0)) (bigSep_singleton (i := (0 : Fin 1)) (Φ := fun s : Fin 1 => (semVal (cell c (.reg s)) 0 : sProp 𝕄)))

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun l : SemLoc sig => iprop(∃ κ : ℕ, cellInv ER (sched m) κ (cell c l)))
          ∗ (bigSep Finset.univ fun l : SemLoc sig => iprop(atPos ER (cell c l) 0 ∅ 0 ∗ reached ER (cell c l) 0))
          ∗ bigSep Finset.univ fun l : SemLoc sig => toksAt c l) := by
  unfold G
  iintro ⟨Hos, Hus, Hst, Hat, Htok⟩
  ihave Hv := (Entails.of_eq (sems0_eq (F := F) c).symm) $$ [Hos Hus]
  · isplitl [Hus] <;> iassumption
  imod (show iprop((bigSep Finset.univ fun l : SemLoc sig => semVal (cell c l) 0) ∗ bigSep Finset.univ fun l : SemLoc sig => roundState ER (sched m) (cell c l) 0)
      ⊢ (|={Set.univ}=> bigSep Finset.univ fun l : SemLoc sig => iprop(∃ κ : ℕ, cellInv ER (sched m) κ (cell c l)) : sProp 𝕄) from by
        rw [← bigSep_pair]
        exact (bigSep_mono fun l _ => (Rounds.body_intro ER (sched m) (cell c l)).trans inv_alloc).trans (bigSep_fupd _ _)) $$ [Hv Hst] with Hinv
  · isplitl [Hv] <;> iassumption
  imodintro
  isplitl [Hinv]; · iexact Hinv
  isplitl [Hat]; · iexact Hat
  iexact Htok

/-! ## The tokens dealt -/

/-- Device `c` and a distance, as the peer at that distance and `c`. -/
def deal : Dev nD × Fin 16 ≃ Dev nD × Fin 16 :=
  Equiv.ofBijective (fun p => (peer p.1 p.2, p.1)) ((Fintype.bijective_iff_injective_and_card _).mpr ⟨by
    rintro ⟨c, d⟩ ⟨c', d'⟩ h
    have h₁ : c = c' := congrArg Prod.snd h
    subst h₁
    have h₂ : d = d' := peer_inj c (congrArg Prod.fst h)
    rw [h₂], rfl⟩)

/-- A family over (device, its peer) taken by the peers. -/
theorem dealt (Φ : Dev nD → Fin 16 → sProp 𝕄) :
    (bigSep Finset.univ fun c : Dev nD => bigSep Finset.univ fun e : Fin 16 => Φ c e)
      = bigSep Finset.univ fun c : Dev nD => bigSep Finset.univ fun d : Fin 16 => Φ (peer c d) c := by
  rw [← bigSep_univ_prod (fun p : Dev nD × Fin 16 => Φ p.1 p.2), bigSep_univ_equiv deal]
  exact bigSep_univ_prod (fun p : Dev nD × Fin 16 => Φ (peer p.1 p.2) p.1)

theorem tok_zero (c : Dev nD) (l : SemLoc sig) : toksAt c l ⊢ (dutyTok ER (cell c l) 0 0 : sProp 𝕄) := bigSep_elim (Finset.mem_univ 0)

/-- The tokens device `c` pays with. -/
def payToks (c : Dev nD) : sProp 𝕄 :=
  iprop((bigSep Finset.univ fun d : Fin 16 => (dutyTok ER (cell (peer c d) lB) 0 c : sProp 𝕄))
    ∗ (bigSep Finset.univ fun d : Fin 16 => (dutyTok ER (cell c (lS d)) 0 0 : sProp 𝕄))
    ∗ (bigSep Finset.univ fun d : Fin 16 => (dutyTok ER (cell (peer c d) (lR c)) 0 0 : sProp 𝕄))
    ∗ (bigSep Finset.univ fun k : Fin 8 => (dutyTok ER (cell c (lW k)) 0 0 : sProp 𝕄))
    ∗ dutyTok ER (cell c lX) 0 0 ∗ dutyTok ER (cell c lO) 0 0)

theorem toks_dealt : (bigSep Finset.univ fun c : Dev nD => bigSep Finset.univ fun l : SemLoc sig => (toksAt c l : sProp 𝕄))
    ⊢ bigSep Finset.univ fun c : Dev nD => (payToks c : sProp 𝕄) := by
  have h : ∀ c : Dev nD, (bigSep Finset.univ fun l : SemLoc sig => (toksAt c l : sProp 𝕄))
      ⊢ iprop((bigSep Finset.univ fun e : Fin 16 => (dutyTok ER (cell c lB) 0 e : sProp 𝕄))
        ∗ (bigSep Finset.univ fun d : Fin 16 => (dutyTok ER (cell c (lS d)) 0 0 : sProp 𝕄))
        ∗ (bigSep Finset.univ fun j : Fin 16 => (dutyTok ER (cell c (lR j)) 0 0 : sProp 𝕄))
        ∗ (bigSep Finset.univ fun k : Fin 8 => (dutyTok ER (cell c (lW k)) 0 0 : sProp 𝕄))
        ∗ dutyTok ER (cell c lX) 0 0 ∗ dutyTok ER (cell c lO) 0 0) := fun c => by
    rw [cells_split]
    iintro ⟨H₁, H₂, H₃, H₄, H₅, H₆⟩
    isplitl [H₁]; · unfold toksAt; iexact H₁
    isplitl [H₂]; · iapply (bigSep_each fun d => tok_zero c (lS d)); iexact H₂
    isplitl [H₃]; · iapply (bigSep_each fun d => tok_zero c (lR d)); iexact H₃
    isplitl [H₄]; · iapply (bigSep_each fun d => tok_zero c (lW d)); iexact H₄
    isplitl [H₅]; · iapply (tok_zero c lX); iexact H₅
    iapply (tok_zero c lO); iexact H₆
  refine Entails.trans (bigSep_mono fun c _ => h c) (Entails.of_eq ?_)
  unfold payToks
  rw [bigSep_pair, bigSep_pair, bigSep_pair, dealt fun c e => (dutyTok ER (cell c lB) 0 e : sProp 𝕄), dealt fun c j => (dutyTok ER (cell c (lR j)) 0 0 : sProp 𝕄),
    ← bigSep_pair, ← bigSep_pair, ← bigSep_pair]

/-- What stays with device `c` of the ghost state, -/
def linear (c : Dev nD) : sProp 𝕄 :=
  iprop((bigSep Finset.univ fun l : SemLoc sig => (atPos ER (cell c l) 0 ∅ 0 : sProp 𝕄)) ∗ payToks c)
/-- and what all of them share. -/
def records (K : Dev nD × SemLoc sig → ℕ) : sProp 𝕄 :=
  bigSep Finset.univ fun p : Dev nD × SemLoc sig => iprop(cellInv ER (sched m) (K p) (cell p.1 p.2) ∗ reached ER (cell p.1 p.2) 0)
instance records_persistent (K : Dev nD × SemLoc sig → ℕ) : BI.Persistent (records (F := F) m K) := by unfold records; infer_instance
def G' (c : Dev nD) : sProp 𝕄 := iprop(∃ K, records m K ∗ linear c)

theorem with_persistent {ι : Type} [DecidableEq ι] {S : Finset ι} {R : sProp 𝕄} [BI.Persistent R] {Φ Ψ : ι → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_pair]; exact bigSep_mono h)

theorem regroup :
    (bigSep Finset.univ fun c : Dev nD => iprop((bigSep Finset.univ fun l : SemLoc sig => iprop(∃ κ : ℕ, cellInv ER (sched m) κ (cell c l)))
          ∗ (bigSep Finset.univ fun l : SemLoc sig => iprop(atPos ER (cell c l) 0 ∅ 0 ∗ reached ER (cell c l) 0))
          ∗ bigSep Finset.univ fun l : SemLoc sig => toksAt c l) : sProp 𝕄)
      ⊢ bigSep Finset.univ (G' (F := F) m) := by
  rw [bigSep_pair, bigSep_pair, ← bigSep_univ_prod (fun p : Dev nD × SemLoc sig => iprop(∃ κ : ℕ, cellInv ER (sched m) κ (kcell p))),
    bigSep_congr (s := Finset.univ) (fun (c : Dev nD) _ => bigSep_pair Finset.univ (fun l : SemLoc sig => (atPos ER (cell c l) 0 ∅ 0 : sProp 𝕄)) (fun l => reached ER (cell c l) 0)),
    bigSep_pair, ← bigSep_univ_prod (fun p : Dev nD × SemLoc sig => (reached ER (kcell p) 0 : sProp 𝕄))]
  iintro ⟨HI, ⟨Hat, #HR⟩, Htok⟩
  ihave HK := (BI.bigSep_exists_pi Finset.univ (fun (p : Dev nD × SemLoc sig) (κ : ℕ) => (cellInv ER (sched m) κ (kcell p) : sProp 𝕄))) $$ HI
  icases HK with ⟨%K, #HI⟩
  ihave Htk := (toks_dealt (F := F)) $$ Htok
  iapply (with_persistent (R := records m K) (Φ := linear) fun c _ => show iprop(records m K ∗ linear c) ⊢ G' m c from by
    unfold G'; iintro H; iexists K; iexact H)
  isplitr
  · unfold records; rw [bigSep_pair]
    isplitl; · iexact HI
    iexact HR
  · unfold linear; rw [bigSep_pair]
    isplitl [Hat] <;> iassumption

/-- The global step: every device's semaphores at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The launch's credits -/

theorem cell_eq_iff {c c' : Dev nD} {l l' : SemLoc sig} : cell c l = cell c' l' ↔ c = c' ∧ l = l' :=
  ⟨fun h => ⟨congrArg (fun p : Dev nD × SemLoc sig => p.1) (kcell_inj (a₁ := (c, l)) (a₂ := (c', l')) h), congrArg Prod.snd h⟩, fun ⟨h, h'⟩ => by rw [h, h']⟩
theorem lR_inj {j j' : Fin 16} (h : lR j = lR j') : j = j' := by revert j j'; decide
theorem lR_ne_lB (j : Fin 16) : lR j ≠ lB := by intro h; cases h

/-- A sum over the distances from 1 is one over the other devices. -/
theorem sum_around (d : Dev nD) (f : Dev nD → ℕ) : ∑ e ∈ from' 1, f (peer d e) = ∑ x ∈ (Finset.univ : Finset (Dev nD)).erase d, f x := by
  rw [from_one]
  exact ((congrArg (fun s : Finset (Fin 16) => ∑ x ∈ s, f x) (others_eq d)).trans (Finset.sum_map _ _ _)).symm

theorem owed_B (d c : Dev nD) : O₀ d (cell c lB) () = if d ≠ c then 1 else 0 := by
  unfold O₀ owR owB
  rw [Pi.add_apply, Finsupp.add_apply, Finset.sum_apply, Finset.sum_apply, Finsupp.finset_sum_apply, Finsupp.finset_sum_apply,
    Finset.sum_eq_zero (fun e _ => by rw [tallyAt_apply, if_neg fun h => lR_ne_lB d (cell_eq_iff.mp h.1).2.symm]), zero_add]
  refine (Finset.sum_congr rfl fun e _ => (tallyAt_apply ..).trans (show _ = (fun x : Dev nD => if c = x then 1 else 0) (peer d e) from ?_)).trans ?_
  · exact if_congr ⟨fun h => (cell_eq_iff.mp h.1).1, fun h => ⟨by rw [h], rfl⟩⟩ rfl rfl
  · rw [sum_around d (fun x : Dev nD => if c = x then _ else 0), Finset.sum_ite_eq]
    exact if_congr (by rw [Finset.mem_erase]; exact ⟨fun h => h.1.symm, fun h => ⟨h.symm, Finset.mem_univ _⟩⟩) rfl rfl
theorem owed_R (d c : Dev nD) (j : Fin 16) : O₀ d (cell c (lR j)) () = if d = j then (if d ≠ c then NB else 0) else 0 := by
  unfold O₀ owR owB
  rw [Pi.add_apply, Finsupp.add_apply, Finset.sum_apply, Finset.sum_apply, Finsupp.finset_sum_apply, Finsupp.finset_sum_apply,
    Finset.sum_eq_zero (s := from' 1) (f := fun e => tallyAt (cell (peer d e) lB) () 1 (cell c (lR j)) ())
      (fun e _ => by rw [tallyAt_apply, if_neg fun h => lR_ne_lB j (cell_eq_iff.mp h.1).2]), add_zero]
  by_cases hj : d = j
  · subst hj
    rw [if_pos rfl]
    refine (Finset.sum_congr rfl fun e _ => (tallyAt_apply ..).trans (show _ = (fun x : Dev nD => if c = x then NB else 0) (peer d e) from ?_)).trans ?_
    · exact if_congr ⟨fun h => (cell_eq_iff.mp h.1).1, fun h => ⟨by rw [h], rfl⟩⟩ rfl rfl
    · rw [sum_around d (fun x : Dev nD => if c = x then _ else 0), Finset.sum_ite_eq]
      exact if_congr (by rw [Finset.mem_erase]; exact ⟨fun h => h.1.symm, fun h => ⟨h.symm, Finset.mem_univ _⟩⟩) rfl rfl
  · rw [if_neg hj]
    exact Finset.sum_eq_zero fun e _ => by rw [tallyAt_apply, if_neg fun h => hj (lR_inj (cell_eq_iff.mp h.1).2).symm]

theorem launch_B (c : Dev nD) :
    tallyOn (cell c lB) (launchCredit (Pipeline.owing O₀) 0 (cell c lB)) = (tallyAt (cell c lB) () 15 : CellTallies nD τ sig Unit) := by
  unfold tallyAt; refine congrArg _ (Finsupp.ext fun u => ?_); cases u
  rw [Pipeline.launchCredit_owing, Finsupp.single_eq_same, Finset.sum_congr rfl fun d _ => owed_B d c, Finset.sum_boole]
  revert c; decide
theorem launch_R (c : Dev nD) (j : Fin 16) (h : j ≠ c) :
    tallyOn (cell c (lR j)) (launchCredit (Pipeline.owing O₀) 0 (cell c (lR j))) = (tallyAt (cell c (lR j)) () NB : CellTallies nD τ sig Unit) := by
  unfold tallyAt; refine congrArg _ (Finsupp.ext fun u => ?_); cases u
  rw [Pipeline.launchCredit_owing, Finsupp.single_eq_same, Finset.sum_congr rfl fun d _ => owed_R d c j]
  refine (Finset.sum_ite_eq' Finset.univ j fun d => if d ≠ c then NB else 0).trans ?_
  rw [if_pos (Finset.mem_univ _), if_pos h]

/-- The credit of device `j`'s block. -/
def rCred (c : Dev nD) (j : Fin 16) : sProp 𝕄 := if j = c then iprop(emp) else cred (tallyAt (cell c (lR j)) () NB)

theorem creds (c : Dev nD) :
    (Pipeline.launchCred O₀ c : sProp 𝕄) ⊢ iprop(cred (tallyAt (cell c lB) () 15) ∗ bigSep Finset.univ (rCred c)) := by
  unfold Pipeline.launchCred
  rw [cells_split, launch_B]
  iintro ⟨H, -, HR, -⟩
  isplitl [H]; · iexact H
  have h : ∀ j : Fin 16, cred (tallyOn (cell c (lR j)) (launchCredit (Pipeline.owing O₀) 0 (cell c (lR j)))) ⊢ (rCred c j : sProp 𝕄) := fun j => by
    unfold rCred
    by_cases h : j = c
    · rw [if_pos h]; iintro -; iempintro
    · rw [if_neg h, launch_R c j h]
  iapply (bigSep_each fun j => h j)
  iexact HR

end Cert.A2A

end
-- ==== Proof.Body.lean ====
/-
The whole body on one device: from the pieces it is launched with to the pieces it leaves.
-/
module

public import proofs.«01_k».proof.Proof.PartB
public import proofs.«01_k».proof.Proof.PartD
public import proofs.«01_k».proof.Proof.Ghost

@[expose] public section

noncomputable section

namespace Cert.A2A

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)
variable (K : Dev nD × SemLoc sig → ℕ)

/-! ## From one phase's pieces to the next's -/

/-- The tokens of the transfer to the device `d` places on. -/
def sTok (c : Dev nD) (d : Fin 16) : sProp 𝕄 :=
  if d = 0 then iprop(emp) else iprop(dutyTok ER (cell c (lS d)) 0 0 ∗ dutyTok ER (cell (peer c d) (lR c)) 0 0)
theorem sTodo_intro (c : Dev nD) :
    iprop(bigSep Finset.univ (fun d => (blkP c (peer c d) (XB m c) : sProp 𝕄))
        ∗ bigSep ((Finset.univ : Finset (Fin 16)).erase 0) (fun d => (iprop(∃ f, slotP (peer c d) c f) : sProp 𝕄)) ∗ bigSep Finset.univ (sTok c))
      ⊢ iprop(blkP c (peer c 0) (XB m c) ∗ fam 1 (sTodo m c) (sSent c)) := by
  rw [fam_one _ _ (by unfold sTodo sSent; rw [if_pos rfl, if_pos rfl])]
  rw [bigSep_at (fun d => (blkP c (peer c d) (XB m c) : sProp 𝕄)) (0 : Fin 16), bigSep_at (sTok c) (0 : Fin 16), bigSep_at (sTodo m c) (0 : Fin 16)]
  rw [show bigSep ((Finset.univ : Finset (Fin 16)).erase 0) (sTodo m c)
      = bigSep ((Finset.univ : Finset (Fin 16)).erase 0) (fun d => iprop(blkP c (peer c d) (XB m c) ∗ (∃ f, slotP (peer c d) c f) ∗ sTok c d)) from
    BI.bigSep_congr fun d hd => by unfold sTodo sTok; rw [if_neg (Finset.mem_erase.mp hd).1, if_neg (Finset.mem_erase.mp hd).1],
    bigSep_pair, bigSep_pair]
  rw [show sTodo m c 0 = iprop(emp) from if_pos rfl]
  iintro ⟨⟨H₁, H₂⟩, H₃, -, H₄⟩
  isplitl [H₁]; · iexact H₁
  isplitr; · iempintro
  isplitl [H₂]; · iexact H₂
  isplitl [H₃] <;> iassumption

theorem rTodo_intro (c : Dev nD) :
    iprop(bigSep Finset.univ (fun j => (atPos ER (cell c (lR j)) 0 ∅ 0 : sProp 𝕄)) ∗ bigSep Finset.univ (rCred c) ∗ slotP c c (GAT m c))
      ⊢ fam 0 (rTodo m c) (rDone m c) := by
  rw [fam_zero]
  unfold rTodo
  rw [bigSep_pair, bigSep_at (rCred c) c,
    bigSep_at (fun j : Fin 16 => if j = c then slotP c j (GAT m c) else cred (tallyAt (cell c (lR j)) () NB)) c]
  rw [show bigSep ((Finset.univ : Finset (Fin 16)).erase c) (fun j : Fin 16 => if j = c then slotP c j (GAT m c) else cred (tallyAt (cell c (lR j)) () NB))
      = bigSep ((Finset.univ : Finset (Fin 16)).erase c) (rCred c) from
    BI.bigSep_congr fun j hj => by unfold rCred; rw [if_neg (Finset.mem_erase.mp hj).1, if_neg (Finset.mem_erase.mp hj).1], if_pos rfl]
  iintro ⟨H₁, ⟨-, H₂⟩, H₃⟩
  isplitl [H₁]; · iexact H₁
  isplitl [H₃] <;> iassumption

theorem wWait_intro (c : Dev nD) :
    iprop(WC m K c 8 ∗ bigSep Finset.univ (fun k => (atPos ER (cell c (lW k)) 0 ∅ 0 : sProp 𝕄))) ⊢ fam 0 (wWait c) (wDone m c) := by
  unfold WC
  rw [fam_all (by decide), fam_zero]
  unfold wWait wSent
  rw [bigSep_pair]
  iintro ⟨⟨-, H₁⟩, H₂⟩
  isplitl [H₂] <;> iassumption

theorem dTodo_intro (c : Dev nD) :
    iprop(bigSep Finset.univ (sSent c) ∗ bigSep Finset.univ (fun d => (atPos ER (cell c (lS d)) 0 ∅ 0 : sProp 𝕄))) ⊢ fam 1 (dTodo c) (dDone m c) := by
  rw [fam_one _ _ (by unfold dTodo dDone sSent; rw [if_pos rfl, if_pos rfl, if_pos rfl])]
  unfold dTodo
  rw [bigSep_pair]
  iintro ⟨H₁, H₂⟩
  isplitl [H₂] <;> iassumption

/-- What the last chunk leaves. -/
theorem RC_end (c : Dev nD) : RC m K c 16 8 ⊢ iprop((CX m K ∗ OW c (owR c 16)) ∗ rows m c 16 ∗ bigSep Finset.univ (rDone m c) ∗ bigSep Finset.univ (wDone m c)) := by
  unfold RC
  rw [fam_all (by decide), fam_all (by decide)]
  iintro ⟨HX, HO, H⟩
  isplitr [H]
  · isplitl [HX] <;> iassumption
  iexact H

theorem SW_end (c : Dev nD) : SW m K c 16 ⊢ iprop(OW c 0 ∗ bigSep Finset.univ (dDone m c)) := by
  unfold SW
  rw [fam_all (by decide), owR_end]
  iintro ⟨-, H⟩
  iexact H

/-! ## The body -/

/-- What device `c` is launched with, besides the shared context. -/
def Start (c : Dev nD) : sProp 𝕄 :=
  iprop(OW c (O₀ c)
    ∗ (bigSep Finset.univ (wTodo m c) ∗ bigSep Finset.univ (fun k => (atPos ER (cell c (lW k)) 0 ∅ 0 : sProp 𝕄)))
    ∗ bigSep Finset.univ (gTodo c)
    ∗ (xaP c (X m c) ∗ (∃ f, xvP c f) ∗ dutyTok ER (cell c lX) 0 0 ∗ atPos ER (cell c lX) 0 ∅ 0)
    ∗ (cred (tallyAt (cell c lB) () 15) ∗ atPos ER (cell c lB) 0 ∅ 0)
    ∗ ((∃ f, bvP c f) ∗ (∃ f, slotP c c f) ∗ (∃ f, rvP c f))
    ∗ bigSep Finset.univ (sTok c)
    ∗ (bigSep Finset.univ (fun j => (atPos ER (cell c (lR j)) 0 ∅ 0 : sProp 𝕄)) ∗ bigSep Finset.univ (rCred c))
    ∗ bigSep Finset.univ (fun d => (atPos ER (cell c (lS d)) 0 ∅ 0 : sProp 𝕄))
    ∗ ((∃ f, yvP c f) ∗ (∃ f, oaP c f) ∗ dutyTok ER (cell c lO) 0 0 ∗ atPos ER (cell c lO) 0 ∅ 0))

/-- What it leaves. -/
def End (c : Dev nD) : sProp 𝕄 :=
  iprop(OW c 0
    ∗ bigSep Finset.univ (wDone m c) ∗ bigSep Finset.univ (rDone m c) ∗ bigSep Finset.univ (dDone m c)
    ∗ (atPos ER (cell c lX) 1 ∅ 0 ∗ xvP c (X m c) ∗ xaP c (X m c))
    ∗ atPos ER (cell c lB) 1 ∅ 0
    ∗ blkP c (peer c 0) (XB m c)
    ∗ rows m c 16
    ∗ (atPos ER (cell c lO) 1 ∅ 0 ∗ oaP c (outAt m c) ∗ yvP c (outAt m c)))

theorem body_ok (c : Dev nD) : iprop(CX m K ∗ Start m c) ⊢ WP c (atB (cc0_body (F := F))) (fun _ => End m c) := by
  unfold Start End
  rw [cc0_body_eq_skeleton]
  unfold cc0_body_skel
  dsimp only [atB]
  iintro ⟨#HX, HO, ⟨Hw, Haw⟩, Hg, ⟨Hxa, Hxv, Htx, Hax⟩, ⟨Hcb, Hab⟩, ⟨Hb, Hs, Hr⟩, Hts, ⟨Har, Hcr⟩, Has, ⟨Hy, Ho, Hto, Hao⟩⟩
  iapply (WP_bind c _ _)
  iapply (part1_ok m K c) $$ [Hw Hxa Hxv Htx]
  · isplitl [Hw]
    · unfold WC; rw [fam_zero]; isplitr; · iexact HX
      iexact Hw
    isplitl [Hxa]; · iexact Hxa
    isplitl [Hxv] <;> iassumption
  iintro ⟨Hw, Hcx⟩
  dsimp only
  iapply (WP_bind c _ _)
  iapply (part2_ok m K c (dw c)) $$ [Hw HO Hg]
  · isplitl [Hw]; · iexact Hw
    unfold SG; isplitr; · iexact HX
    isplitl [HO]; · iexact HO
    rw [fam_one _ _ (by unfold gTodo; rw [if_pos rfl])]
    iexact Hg
  iintro ⟨Hw, HS⟩
  dsimp only
  iapply (WP_bind c _ _)
  iapply (part3_ok m K c) $$ HS
  iintro HS
  dsimp only
  iapply (WP_bind c _ _)
  iapply (part4_ok m K c) $$ HS
  iintro HS
  dsimp only
  iapply (WP_bind c _ _)
  iapply (part5_ok m K c) $$ [HS Hcx Hax Hcb Hab Hb Hs Hr]
  · isplitl [HS]; · iexact HS
    isplitl [Hcx Hax]
    · isplitl [Hcx] <;> iassumption
    isplitl [Hcb Hab]
    · isplitl [Hcb] <;> iassumption
    isplitl [Hb]; · iexact Hb
    isplitl [Hs] <;> iassumption
  iintro ⟨-, HO, Hxx, ⟨Hab, Hpp⟩, Hb, Hs, Hr⟩
  ihave Hb := (Entails.of_eq (bv_split c (XB m c))) $$ Hb
  ihave Hb := (sTodo_intro m c) $$ [Hb Hpp Hts]
  · isplitl [Hb]; · iexact Hb
    isplitl [Hpp] <;> iassumption
  icases Hb with ⟨Hb, HS⟩
  iapply (WP_bind c _ _)
  iapply (part6_ok m K c) $$ [HS HO]
  · unfold SD; isplitr; · iexact HX
    isplitl [HO] <;> iassumption
  iintro HS
  iapply (WP_bind c _ _)
  iapply (part7_ok m K c) $$ HS; iintro HS
  iapply (WP_bind c _ _)
  iapply (part8_ok m K c) $$ HS; iintro HS
  iapply (WP_bind c _ _)
  iapply (part9_ok m K c) $$ HS; iintro HS
  dsimp only
  iapply (WP_bind c _ _)
  iapply (part10_ok m K c) $$ HS; iintro HS
  iapply (WP_bind c _ _)
  iapply (part11_ok m K c) $$ [HS Hr Hs Har Hcr Hw Haw]
  · isplitl [HS]; · iexact HS
    isplitl [Hr]; · iexact Hr
    isplitl [Hs Har Hcr]
    · iapply (rTodo_intro m c)
      isplitl [Har]; · iexact Har
      isplitl [Hcr] <;> iassumption
    iapply (wWait_intro m K c)
    isplitl [Hw] <;> iassumption
  iintro ⟨HR, Hss⟩
  iapply (WP_bind c _ _)
  iapply (part12_ok m K c) $$ HR; iintro HR
  dsimp only
  iapply (WP_bind c _ _)
  iapply (part13_ok m K c) $$ HR; iintro HR
  iapply (WP_bind c _ _)
  iapply (part14_ok m K c) $$ HR; iintro HR
  dsimp only
  iapply (WP_bind c _ _)
  iapply (part15_ok m K c) $$ HR; iintro HR
  iapply (WP_bind c _ _)
  iapply (part16_ok m K c) $$ HR; iintro HR
  dsimp only
  ihave HR := (RC_end m K c) $$ HR
  icases HR with ⟨HXO, Hr, Hrd, Hwd⟩
  iapply (WP_bind c _ _)
  iapply (part17_ok m K c) $$ [HXO Hss Has Hy Ho Hto Hao]
  · isplitl [HXO]; · iexact HXO
    isplitl [Hss Has]
    · iapply (dTodo_intro m c)
      isplitl [Hss] <;> iassumption
    isplitl [Hy]; · iexact Hy
    isplitl [Ho]; · iexact Ho
    isplitl [Hto] <;> iassumption
  iintro ⟨HS, Hoo⟩
  iapply (WP_bind c _ _)
  iapply (part18_ok m K c) $$ HS; iintro HS
  iapply (WP_bind c _ _)
  iapply (part19_ok m K c) $$ HS; iintro HS
  simp only [Prog.lift, Prog.bind_op, Prog.bind_ret, Prog.pure_eq_ret]
  iapply (step_swait m K c 15 15 16 rfl rfl (by decide) (by rfl) (by rfl)) $$ HS; iintro HS
  iapply (WP_ret c)
  ihave HS := (SW_end m K c) $$ HS
  icases HS with ⟨HO, Hd⟩
  isplitl [HO]; · iexact HO
  isplitl [Hwd]; · iexact Hwd
  isplitl [Hrd]; · iexact Hrd
  isplitl [Hd]; · iexact Hd
  isplitl [Hxx]; · iexact Hxx
  isplitl [Hab]; · iexact Hab
  isplitl [Hb]; · iexact Hb
  isplitl [Hr]; · iexact Hr
  iexact Hoo

end Cert.A2A

end
-- ==== Proof.Launch.lean ====
/- The launch: what a device is dealt makes the body's start, what the body leaves closes every cell and rejoins the buffers,
   and the run of the whole mesh follows. -/
module

public import proofs.«01_k».proof.Proof.Body
public import Idealize.ShloMosaic.Lib.Pipeline.CollectiveSegs

@[expose] public section

noncomputable section

namespace Cert.A2A

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The start -/

theorem gTodo_intro (c : Dev nD) :
    iprop((∃ f, ((c : Thread nD τ).loc cc0_scratch2) ↦{fullShare} f) ∗ bigSep Finset.univ (fun d : Fin 16 => (dutyTok ER (cell (peer c d) lB) 0 c : sProp 𝕄)))
      ⊢ iprop(bigSep Finset.univ (gTodo c) ∗ ∃ f, (slotP c c f : sProp 𝕄)) := by
  rw [bigSep_at (gTodo c) 0, bigSep_at (fun d : Fin 16 => (dutyTok ER (cell (peer c d) lB) 0 c : sProp 𝕄)) 0]
  rw [show bigSep ((Finset.univ : Finset (Fin 16)).erase 0) (gTodo (F := F) c)
      = bigSep ((Finset.univ : Finset (Fin 16)).erase 0) (fun d => iprop((∃ f, slotP c (peer c d) f) ∗ dutyTok ER (cell (peer c d) lB) 0 c)) from
    BI.bigSep_congr fun d hd => by unfold gTodo; rw [if_neg (Finset.mem_erase.mp hd).1], bigSep_pair,
    show gTodo (F := F) c 0 = iprop(emp) from if_pos rfl]
  iintro ⟨⟨%f, H⟩, -, Ht⟩
  ihave H := (Entails.of_eq ((gv_around c f).trans (bigSep_at (fun d : Fin 16 => (slotP c (peer c d) f : sProp 𝕄)) 0))) $$ H
  icases H with ⟨H₀, H⟩
  isplitl [H Ht]
  · isplitr; · iempintro
    isplitl [H]
    · iapply (bigSep_each_on (Φ := fun d : Fin 16 => (slotP c (peer c d) f : sProp 𝕄)) (Ψ := fun d : Fin 16 => iprop(∃ f, slotP c (peer c d) f)) fun d _ =>
        show (slotP c (peer c d) f : sProp 𝕄) ⊢ iprop(∃ f, slotP c (peer c d) f) from by iintro H; iexists f; iexact H)
      iexact H
    iexact Ht
  iexists f
  rw [peer_zero]; iexact H₀

theorem sTok_intro (c : Dev nD) :
    iprop(bigSep Finset.univ (fun d : Fin 16 => (dutyTok ER (cell c (lS d)) 0 0 : sProp 𝕄)) ∗ bigSep Finset.univ (fun d : Fin 16 => (dutyTok ER (cell (peer c d) (lR c)) 0 0 : sProp 𝕄)))
      ⊢ bigSep Finset.univ (sTok c) := by
  rw [← bigSep_pair]
  refine bigSep_each fun d => ?_
  unfold sTok
  by_cases h : d = 0
  · rw [if_pos h]; iintro -; iempintro
  · rw [if_neg h]

theorem wTodo_intro (c : Dev nD) :
    iprop((((c : Thread nD τ).loc main_arg1) ↦{fullShare} Wt m c) ∗ (∃ f, ((c : Thread nD τ).loc cc0_scratch4) ↦{fullShare} f)
        ∗ bigSep Finset.univ (fun k : Fin 8 => (dutyTok ER (cell c (lW k)) 0 0 : sProp 𝕄)))
      ⊢ bigSep Finset.univ (wTodo m c) := by
  unfold wTodo
  rw [bigSep_pair, bigSep_pair, wa_split]
  iintro ⟨H₁, ⟨%f, H₂⟩, H₃⟩
  isplitl [H₁]; · iexact H₁
  isplitl [H₂]
  · ihave H₂ := (Entails.of_eq (wv_split c f)) $$ H₂
    iapply (bigSep_each fun k : Fin 8 => show (wslotP c k f : sProp 𝕄) ⊢ iprop(∃ f, wslotP c k f) from by iintro H; iexists f; iexact H)
    iexact H₂
  iexact H₃

/-- The scratch buffers, each whole at some contents. -/
def scratch (c : Dev nD) : sProp 𝕄 :=
  iprop((∃ f, xvP c f) ∗ (∃ f, bvP c f) ∗ (∃ f, ((c : Thread nD τ).loc cc0_scratch2) ↦{fullShare} f) ∗ (∃ f, rvP c f)
    ∗ (∃ f, ((c : Thread nD τ).loc cc0_scratch4) ↦{fullShare} f) ∗ (∃ f, yvP c f))
theorem scratch_eq (c : Dev nD) : (Pipeline.scopedRest cfg0.spec c : sProp 𝕄) = scratch c := by
  rw [scopedRest0_eq]; unfold scratch; simp only [xvP_eq, bvP_eq, rvP_eq, yvP_eq]; rfl
/-- The operand, the weight and the result. -/
def mains (c : Dev nD) (v : S128x2048.Idx → Elt F .f32) : sProp 𝕄 :=
  iprop(xaP c (X m c) ∗ (((c : Thread nD τ).loc main_arg1) ↦{fullShare} Wt m c) ∗ oaP c v)

/-- What a device's body starts from, beside its scratch buffers. -/
def start (c : Dev nD) : sProp 𝕄 :=
  iprop((∃ K, CX m K ∗ linear c) ∗ cred (tallyAt (cell c lB) () 15) ∗ bigSep Finset.univ (rCred c) ∗ ∃ v, mains m c v)

theorem body_start (c : Dev nD) :
    iprop(start m c ∗ scratch c ∗ OW c (O₀ c)) ⊢ iprop(∃ K, CX m K ∗ Start m c) := by
  unfold start linear scratch mains payToks
  rw [cells_split]
  iintro ⟨⟨⟨%K, HX, ⟨HaB, HaS, HaR, HaW, HaX, HaO⟩, HtB, HtS, HtR, HtW, HtX, HtO⟩, HcB, HcR, ⟨%v, Hx, Hw, Ho⟩⟩, ⟨Hxv, Hbv, Hgv, Hrv, Hwv, Hyv⟩, HO⟩
  iexists K
  isplitl [HX]; · iexact HX
  ihave Hg := (gTodo_intro c) $$ [Hgv HtB]
  · isplitl [Hgv] <;> iassumption
  icases Hg with ⟨Hg, Hs⟩
  unfold Start
  isplitl [HO]; · iexact HO
  isplitl [Hw Hwv HtW HaW]
  · isplitr [HaW]
    · iapply (wTodo_intro m c)
      isplitl [Hw]; · iexact Hw
      isplitl [Hwv] <;> iassumption
    iexact HaW
  isplitl [Hg]; · iexact Hg
  isplitl [Hx Hxv HtX HaX]
  · isplitl [Hx]; · iexact Hx
    isplitl [Hxv]; · iexact Hxv
    isplitl [HtX] <;> iassumption
  isplitl [HcB HaB]
  · isplitl [HcB] <;> iassumption
  isplitl [Hbv Hs Hrv]
  · isplitl [Hbv]; · iexact Hbv
    isplitl [Hs] <;> iassumption
  isplitl [HtS HtR]
  · iapply (sTok_intro c)
    isplitl [HtS] <;> iassumption
  isplitl [HaR HcR]
  · isplitl [HaR] <;> iassumption
  isplitl [HaS]; · iexact HaS
  isplitl [Hyv]; · iexact Hyv
  isplitl [Ho]; · iexists v; iexact Ho
  isplitl [HtO] <;> iassumption

/-! ## The end -/

/-- A cell with no duty left closes. -/
theorem close_cell (K : Dev nD × SemLoc sig → ℕ) (c : Dev nD) (l : SemLoc sig) (R : ℕ) (h : ∀ r, R ≤ r → (sched (F := F) m).duties (cell c l) r = ∅) :
    iprop(CX m K ∗ atPos ER (cell c l) R ∅ 0) ⊢ |={Set.univ}=> (semVal (cell c l) 0 : sProp 𝕄) := by
  iintro ⟨HX, Ha⟩
  ihave H := (CX_cell m K c l) $$ HX
  icases H with ⟨H, -⟩
  imod (Rounds.cell_close ER (sched m) (Set.mem_univ (K (c, l))) (fun h => h) (R := R) h) $$ [H Ha] with Hz
  · isplitl [H] <;> iassumption
  imodintro; iexact Hz
theorem close_fam {ι : Type} [Fintype ι] [DecidableEq ι] (K : Dev nD × SemLoc sig → ℕ) (c : Dev nD) (l : ι → SemLoc sig) (R : ι → ℕ)
    (h : ∀ i r, R i ≤ r → (sched (F := F) m).duties (cell c (l i)) r = ∅) :
    iprop(CX m K ∗ bigSep Finset.univ (fun i => (atPos ER (cell c (l i)) (R i) ∅ 0 : sProp 𝕄)))
      ⊢ |={Set.univ}=> bigSep Finset.univ (fun i => (semVal (cell c (l i)) 0 : sProp 𝕄)) :=
  (with_persistent fun i _ => close_cell m K c (l i) (R i) (h i)).trans (bigSep_fupd _ _)

theorem no_duty (c : Dev nD) (l : SemLoc sig) (p : Prop) [Decidable p] (h : p → dutOf c l = ∅) (r : ℕ) (hr : (if p then 0 else 1) ≤ r) :
    (sched (F := F) m).duties (cell c l) r = ∅ := by
  by_cases hp : p
  · rcases r with _ | r
    · rw [duties_cell, h hp]
    · exact duties_later m _ _ (Nat.succ_pos r)
  · exact duties_later m _ _ (by rw [if_neg hp] at hr; exact hr)

/-- What a device's body leaves: its cells at zero, its scratch buffers, the arguments and the result. -/
def finish (c : Dev nD) : sProp 𝕄 :=
  iprop((unscopedSems0 c ∗ mains m c (outAt m c)) ∗ Pipeline.ownSems0 osem c ∗ scratch c)

theorem body_end (K : Dev nD × SemLoc sig → ℕ) (c : Dev nD) :
    iprop(CX m K ∗ End m c) ⊢ |={Set.univ}=> iprop(OW c 0 ∗ finish m c) := by
  unfold End wDone rDone dDone
  rw [bigSep_pair, bigSep_pair, bigSep_pair, bigSep_pair]
  iintro ⟨#HX, HO, ⟨HaW, Hwv, Hw⟩, ⟨HaR, Hgv⟩, ⟨HaS, Hbv⟩, ⟨HaX, Hxv, Hx⟩, HaB, Hb, Hrv, HaO, Ho, Hyv⟩
  imod (close_cell m K c lB 1 (duties_later m _)) $$ [HaB] with HB
  · isplitr; · iexact HX
    iexact HaB
  imod (close_cell m K c lX 1 (duties_later m _)) $$ [HaX] with HzX
  · isplitr; · iexact HX
    iexact HaX
  imod (close_cell m K c lO 1 (duties_later m _)) $$ [HaO] with HzO
  · isplitr; · iexact HX
    iexact HaO
  imod (close_fam m K c lW (fun _ => 1) fun k => duties_later m _) $$ [HaW] with HzW
  · isplitr; · iexact HX
    iexact HaW
  imod (close_fam m K c lR (fun j => if j = c then 0 else 1) fun j => no_duty m c (lR j) (j = c) fun h => h ▸ dut_R_self c) $$ [HaR] with HzR
  · isplitr; · iexact HX
    iexact HaR
  imod (close_fam m K c lS (fun d => if d = 0 then 0 else 1) fun d => no_duty m c (lS d) (d = 0) fun h => h ▸ dut_S0 c) $$ [HaS] with HzS
  · isplitr; · iexact HX
    iexact HaS
  imodintro
  isplitl [HO]; · iexact HO
  ihave Hz := (Entails.of_eq ((cells_split fun l => (semVal (cell c l) 0 : sProp 𝕄)).symm.trans (sems0_eq c))) $$ [HB HzX HzO HzW HzR HzS]
  · isplitl [HB]; · iexact HB
    isplitl [HzS]; · iexact HzS
    isplitl [HzR]; · iexact HzR
    isplitl [HzW]; · iexact HzW
    isplitl [HzX] <;> iassumption
  icases Hz with ⟨Hu, Hown⟩
  unfold finish mains scratch
  isplitl [Hu Hx Hw Ho]
  · isplitl [Hu]; · iexact Hu
    isplitl [Hx]; · iexact Hx
    isplitl [Hw]; · rw [wa_split]; iexact Hw
    iexact Ho
  isplitl [Hown]; · iexact Hown
  isplitl [Hxv]; · iexists _; iexact Hxv
  isplitl [Hb Hbv]
  · iexists (XB m c)
    rw [bv_split, bigSep_at (fun d : Fin 16 => (blkP c (peer c d) (XB m c) : sProp 𝕄)) (0 : Fin 16)]
    isplitl [Hb]; · iexact Hb
    ihave H := (Entails.of_eq (bigSep_at (fun d : Fin 16 => if d = 0 then iprop(emp) else (blkP c (peer c d) (XB m c) : sProp 𝕄)) (0 : Fin 16))) $$ Hbv
    icases H with ⟨-, H⟩
    iapply (Entails.of_eq (BI.bigSep_congr (s := (Finset.univ : Finset (Fin 16)).erase 0) (Φ := fun d : Fin 16 => if d = 0 then iprop(emp) else (blkP c (peer c d) (XB m c) : sProp 𝕄))
      (Ψ := fun d : Fin 16 => (blkP c (peer c d) (XB m c) : sProp 𝕄)) fun d hd => if_neg (Finset.mem_erase.mp hd).1))
    iexact H
  isplitl [Hgv]; · iexists (GAT m c); rw [gv_split]; iexact Hgv
  isplitl [Hrv]
  · unfold rows; icases Hrv with ⟨%f, -, H⟩; iexists f; iexact H
  isplitl [Hwv]; · iexists (WB m c); rw [wv_split]; iexact Hwv
  iexists _; iexact Hyv

/-! ## The pipeline's proof data -/

def Φ₀ (c : Dev nD) : sProp 𝕄 := iprop(start m c ∗ scratch c)

def dats (_ : Fin 1) (c : Dev nD) : Dat τ (Elt F) Unit ℕ UU ℕ cfg0 c where
  A w := w.elim0
  after w _ := w.elim0
  Φ t := match t with
    | ⟨0, _⟩ => Φ₀ m c
    | ⟨_ + 1, _⟩ => finish m c
  q _ := fullShare
  owed t := match t with
    | ⟨0, _⟩ => O₀ c
    | ⟨_ + 1, _⟩ => 0

theorem bigSep_none (Φ : Fin cfg0.W → sProp 𝕄) : bigSep Finset.univ Φ = iprop(emp) := by
  rw [show (Finset.univ : Finset (Fin cfg0.W)) = ∅ from rfl, BI.bigSep_empty]; rfl

set_option maxRecDepth 4000 in
theorem body_obligation (c : Dev nD) : BodyObligation (dats (F := F) m 0 c) (defs₀ (F := F)) 𝒱₀ () Set.univ := fun t => by
  rw [fin_N0 t, bigSep_none, bigSep_none]
  show iprop(Φ₀ m c ∗ (dats (F := F) m 0 c).owesAt () t0_0.castSucc ∗ emp) ⊢ WP c (atB (cc0_body (F := F))) (fun _ => iprop(finish m c ∗ (dats (F := F) m 0 c).owesAt () t0_0.succ ∗ emp))
  unfold Φ₀ Dat.owesAt Pipeline.owesWithin
  iintro ⟨⟨Hs, Hc⟩, ⟨%W, -, HO⟩, -⟩
  ihave H := (body_start m c) $$ [Hs Hc HO]
  · isplitl [Hs]; · iexact Hs
    isplitl [Hc]; · iexact Hc
    unfold OW; iexists W; iexact HO
  icases H with ⟨%K, #HX, H⟩
  ihave Hw := (body_ok m K c) $$ [H]
  · isplitr; · iexact HX
    iexact H
  iapply (wp_fupd frame (wpE (defs₀ (F := F)) 𝒱₀ (c : Thread nD τ) none) (E := Set.univ))
  iapply (wp_wand frame (wpE (defs₀ (F := F)) 𝒱₀ (c : Thread nD τ) none) (E := Set.univ)) $$ Hw
  iintro %a H
  imod (body_end m K c) $$ [H] with ⟨HO, H⟩
  · isplitr; · iexact HX
    iexact H
  imodintro
  isplitl [H]; · iexact H
  isplitl [HO]
  · unfold OW
    icases HO with ⟨%W', HO⟩
    iexists W'
    isplitr; · ipureintro; exact fun _ _ => Or.inl trivial
    iexact HO
  iempintro

/-! ## The launch theorem's side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  rw [Pipeline.unscopedRestP_none, unscopedRest0_eq]
  iintro ⟨⟨Hx, Hw, Ho⟩, Hlev, Hcr, -, HG⟩
  ihave Hc := (creds (F := F) c) $$ Hcr
  icases Hc with ⟨HB, HR⟩
  imodintro
  unfold start G' mains CX records
  isplitl
  · isplitl [HG Hlev]
    · icases HG with ⟨%K, HI, HL⟩
      iexists K
      isplitr [HL]
      · isplitl [HI] <;> iassumption
      iexact HL
    isplitl [HB]; · iexact HB
    isplitl [HR]; · iexact HR
    iexists (m ((c : Thread nD τ).loc main_v1))
    rw [xaP_eq, oaP_eq]
    isplitl [Hx]; · iexact Hx
    isplitl [Hw]; · iexact Hw
    iexact Ho
  · iempintro

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scratch_eq]
  unfold Φ₀
  iintro ⟨Hs, -, Hr⟩
  isplitl [Hs] <;> iassumption

theorem phi1_exit (c : Dev nD) :
    (dats m 0 c).Φ (Fin.last cfg0.N) ⊢ iprop((unscopedSems0 c ∗ mains m c (outAt m c)) ∗ Pipeline.ownSems0 osem c ∗ Pipeline.scopedRest cfg0.spec c) := by
  rw [show (dats m 0 c).Φ (Fin.last cfg0.N) = finish m c from rfl, scratch_eq]
  unfold finish
  iintro H; iexact H

theorem waits (c : Dev nD) : (levAts L lv : sProp 𝕄) ⊢ Pipeline.cellsWaits cfgs (dats m) () 0 c :=
  Pipeline.cellsWaits_intro cfgs (dats m) () 0 c fun w => w.elim0

/-- The final memory on one device: the arguments as launched, the result computed. -/
def Final (c : Dev nD) (s : MemSt nD τ sig (Elt F)) : Prop :=
  s.mem ((c.tc : Thread nD τ).loc main_arg0) = m ((c.tc : Thread nD τ).loc main_arg0)
  ∧ s.mem ((c.tc : Thread nD τ).loc main_arg1) = m ((c.tc : Thread nD τ).loc main_arg1)
  ∧ s.mem ((c.tc : Thread nD τ).loc main_v1) = outAt m c

theorem read_whole (c : Dev nD) (b : Ref sig .tc) (f : Buf (Elt F) ((c : Thread nD τ).loc b)) (s' : Phys nD τ sig (Elt F)) :
    iprop((((c : Thread nD τ).loc b) ↦{fullShare} f : sProp 𝕄) ∗ SI s') ⊢ iprop(⌜s'.mem.mem ((c : Thread nD τ).loc b) = f⌝ ∗ SI s') := by
  iintro ⟨H, HS⟩
  ihave H' := (pointsTo_read_all ({()} : Finset Unit) (fun _ => (c : Thread nD τ).loc b) (fun _ => f) s') $$ [H HS]
  · rw [bigSep_singleton]; isplitl [H] <;> iassumption
  icases H' with ⟨%h, HS⟩
  isplitr; · ipureintro; exact h () (Finset.mem_singleton_self _)
  iexact HS

theorem read_final (c : Dev nD) (s' : Phys nD τ sig (Elt F)) :
    iprop((unscopedSems0 c ∗ mains m c (outAt m c)) ∗ emp ∗ SI s')
      ⊢ |={Set.univ}=> (iprop(⌜Final m c s'.mem ∧ ∀ sm : SemLoc sig, sm.isScoped .tc = false → s'.mem.sem ((c.tc : Thread nD τ), sm) = 0⌝ ∗ SI s') : sProp 𝕄) := by
  unfold mains
  rw [xaP_eq, oaP_eq]
  iintro ⟨⟨Hu, Hx, Hw, Ho⟩, -, HS⟩
  ihave H := (read_whole c main_arg0 _ s') $$ [Hx HS]
  · isplitl [Hx] <;> iassumption
  icases H with ⟨%hx, HS⟩
  ihave H := (read_whole c main_arg1 _ s') $$ [Hw HS]
  · isplitl [Hw] <;> iassumption
  icases H with ⟨%hw, HS⟩
  ihave H := (read_whole c main_v1 _ s') $$ [Ho HS]
  · isplitl [Ho] <;> iassumption
  icases H with ⟨%ho, HS⟩
  imod (Pipeline.unscopedSems0_read (X := unscopedSems0 c) (c := c) fupd_intro s') $$ [Hu HS] with ⟨%hs, HS⟩
  · isplitl [Hu] <;> iassumption
  imodintro
  isplitr; · ipureintro; exact ⟨⟨hx, hw, ho⟩, hs⟩
  iexact HS

/-! ## The run -/

set_option maxRecDepth 8000 in
/-- For any float values, from any memory with zero counters: every weakly fair execution of the sixteen devices' kernels
    ends, with each device's arguments as they were, its result as computed, and every semaphore counter at zero. -/
theorem run_main : θ_run defs (onTc (τ := τ) (main (F := F))) ⟨m, fun _ => 0, ρ⟩ (fun r => (∀ c : Dev nD, Final m c r.2) ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := fun w => w.elim0) (harr := arr_whole0) (hstage := stage_whole0) (hshare := fun _ w => w.elim0)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund_cells m) $$ HX with HG
      imodintro
      isplitl [HP] <;> iassumption)
    (hglob := glob m)
    (hA := fun _ w => w.elim0) (hpf := fun _ k => k.elim0)
    (X := start m) (Y := fun c => iprop(unscopedSems0 c ∗ mains m c (outAt m c))) (Z := fun _ => iprop(emp))
    (hX := start_intro m ρ) (hin := phi0_intro m) (hout := phi1_exit m)
    (QY := fun c s => Final m c s ∧ ∀ sm : SemLoc sig, sm.isScoped .tc = false → s.sem ((c.tc : Thread nD τ), sm) = 0)
    (hY := read_final m)
    (hQ := fun _ h hs => ⟨fun c => (h c).2.2.1, sem_eq_zero hs fun c => (h c).2.2.2⟩)

end Cert.A2A

end
-- ==== Proof.Silu.lean ====
/-
The last step on one element, over the extended reals: the kernel multiplies by the reciprocal of `1 + exp (0 - y)`, the
reference divides by `1 + exp (-y)`; both are the same at every extended real. And between the bounds of the
reference's clip, the clip is the identity.
-/
module

public import Idealize.ShloMosaic.PureOps.Ideal.Laws
public import Idealize.ShloMosaic.Lib.IdealHost

@[expose] public section

noncomputable section

namespace Cert.A2A

open Idealize.ShloMosaic

/-- The reference's last step, without the clip. -/
def silu (y : EReal) : EReal := Ideal.div y (1 + Ideal.exp (-y))

theorem exp_nonneg (y : EReal) : 0 ≤ Ideal.exp y := by
  induction y with
  | bot => exact le_refl _
  | top => exact le_top
  | coe r => rw [Ideal.exp_coe]; exact_mod_cast (Real.exp_pos r).le

/-- The divisor is never zero, at the infinities either. -/
theorem denom_ne_zero (y : EReal) : 1 + Ideal.exp y ≠ 0 := by
  have h : (1 : EReal) ≤ 1 + Ideal.exp y := le_add_of_nonneg_right (exp_nonneg y)
  exact (lt_of_lt_of_le zero_lt_one h).ne'

/-- The kernel's last step is the reference's: a product with the reciprocal against a quotient. -/
theorem silu_of_reciprocal (y : EReal) : y * Ideal.div 1 (1 + Ideal.exp (0 - y)) = silu y := by
  rw [zero_sub, silu, Ideal.div, Ideal.div, if_neg (denom_ne_zero _), if_neg (denom_ne_zero _), one_mul]

/-- The two bounds of the clip. -/
def clipLo : EReal := Ideal.ofBits .f32 0xC2700000#32
def clipHi : EReal := Ideal.ofBits .f32 0x42700000#32

/-- Between its bounds the clip changes nothing. -/
theorem clip_within {y : EReal} (h₁ : clipLo ≤ y) (h₂ : y ≤ clipHi) : min clipHi (max clipLo y) = y := by
  rw [max_eq_right h₁, min_eq_right h₂]

end Cert.A2A

end
-- ==== Proof.Product.lean ====
/-
The kernel's arithmetic over the extended reals: the eight chunks' products, each over 256 positions and added up in
order, are one product over all 2048 positions of the assembled rows by the weight, and the result is `silu` of it.
-/
module

public import proofs.«01_k».proof.Proof.Proto
public import proofs.«01_k».proof.Proof.Silu
public import Idealize.ShloMosaic.Lib.MatmulPlain
public import Idealize.ShloMosaic.Lib.Pointwise.Sums

@[expose] public section

noncomputable section

namespace Cert.A2A

open Cert.KernelIdeal Cert.KernelIdeal.Gen
open Idealize.ShloMosaic hiding ix2 ix3
open Idealize.ShloMosaic.TcCoe
open Idealize.ShloMosaic.ValueIdx
open scoped BigOperators

variable (m : (ℓ : Loc nD τ sig) → Buf (Elt Ideal) ℓ)

/-- The whole weight's row that row `b` of chunk `k` is, and the assembled rows' column. -/
def pos (k : Fin 8) (b : Fin 256) : Fin 2048 := ⟨k.val * 256 + b.val, by omega⟩

/-- Column `b` of chunk `k` of the assembled rows is their column `256 k + b`; -/
theorem xChunk_apply (c : Dev nD) (k : Fin 8) (r : Fin 128) (b : Fin 256) :
    xChunk m c k (ix2 r b) = ROW m c (ix2 r (pos k b)) := by
  show ROW m c ((chunkR k).emb (ix2 r b)) = _
  refine congrArg (ROW m c) (funext fun a => Fin.ext ((unit_emb _ _ _ _ a).trans ?_))
  match a with
  | ⟨0, _⟩ => show 0 + r.val = r.val; omega
  | ⟨1, _⟩ => show 256 * k.val + b.val = k.val * 256 + b.val; omega

/-- row `b` of chunk `k` of the weight buffer is the weight's row `256 k + b`. -/
theorem wChunk_apply (c : Dev nD) (k : Fin 8) (b : Fin 256) (n : Fin 2048) :
    wChunk m c k (ix3 (0 : Fin 1) b n) = Wt m c (ix2 (pos k b) n) := by
  show WB m c ((wslotR k).emb (ix3 (0 : Fin 1) b n)) = _
  have e : (wslotR k).emb (ix3 (0 : Fin 1) b n) = ix3 k b n := by
    refine funext fun a => Fin.ext ((unit_emb _ _ _ _ a).trans ?_)
    match a with
    | ⟨0, _⟩ => show k.val + 0 = k.val; omega
    | ⟨1, _⟩ => show 0 + b.val = b.val; omega
    | ⟨2, _⟩ => show 0 + n.val = n.val; omega
  rw [e]
  show Wt m c (ix2 _ n) = _
  refine congrArg (Wt m c) (funext fun a => Fin.ext ?_)
  match a with
  | ⟨0, _⟩ => show 256 * k.val + b.val = k.val * 256 + b.val; omega
  | ⟨1, _⟩ => rfl

/-- One chunk's product as the kernel writes it: the chunk of the weight without its leading axis, rounded, then the
    product into zeros. -/
def chunkDot (x : FVec Ideal S128x256 .bf16) (w : FVec Ideal S1x256x2048 .f32) : FVec Ideal S128x2048 .f32 :=
  matmul dot_S128x256_S256x2048_S128x2048_1_0_0_1_n_n none x (k0_pay6 w) (constant S128x2048 .f32 0x00000000#32)

/-- Over the extended reals it is the sum of the products over the chunk. -/
theorem chunkDot_apply (x : FVec Ideal S128x256 .bf16) (w : FVec Ideal S1x256x2048 .f32) (r : Fin 128) (n : Fin 2048) :
    chunkDot x w (ix2 r n) = ∑ b : Fin 256, x (ix2 r b) * w (ix3 (0 : Fin 1) b n) := by
  refine (Ideal.matmul_plain_apply (M := 128) (K := 256) (N := 2048) none x (k0_pay6 w) _ r n).trans ?_
  rw [show (constant S128x2048 .f32 0x00000000#32 : FVec Ideal S128x2048 .f32) (ix2 r n) = 0 from Ideal.ofBits_zero_f32, zero_add]
  refine Finset.sum_congr rfl fun b _ => congrArg (x (ix2 r b) * ·) ?_
  show shapeCast S256x2048 w shapeCasts_S1x256x2048_S256x2048 (ix2 b n) = _
  refine shapeCast_apply _ _ _ (ix3 (0 : Fin 1) b n) ?_
  refine (Shape.rowMajor_val_three (d := ![1, 256, 2048]) _).trans (Eq.trans ?_ (Shape.rowMajor_val_two (d := ![256, 2048]) _).symm)
  show (0 * 256 + b.val) * 2048 + n.val = b.val * 2048 + n.val
  omega

/-- The product of chunk `k` on device `c`. -/
abbrev part (c : Dev nD) (k : Fin 8) : FVec Ideal S128x2048 .f32 := chunkDot (xChunk m c k) (wChunk m c k)

/-- The kernel's sum is the eight chunks' products, in order. -/
theorem acc7_apply (c : Dev nD) (i : S128x2048.Idx) :
    acc7 m c i = ((((((part m c 0 i + part m c 1 i) + part m c 2 i) + part m c 3 i) + part m c 4 i) + part m c 5 i) + part m c 6 i) + part m c 7 i := rfl

/-- Entry `(r, n)` of the assembled rows by the weight. -/
def whole (c : Dev nD) (r : Fin 128) (n : Fin 2048) : EReal := ∑ k : Fin 2048, ROW m c (ix2 r k) * Wt m c (ix2 k n)

/-- The eight chunks' products add up to the whole product. -/
theorem acc7_eq (c : Dev nD) (r : Fin 128) (n : Fin 2048) : acc7 m c (ix2 r n) = whole m c r n := by
  have hp : ∀ k : Fin 8, part m c k (ix2 r n) = ∑ b : Fin 256, ROW m c (ix2 r (pos k b)) * Wt m c (ix2 (pos k b) n) := fun k => by
    refine (chunkDot_apply _ _ r n).trans (Finset.sum_congr rfl fun b _ => ?_)
    rw [xChunk_apply, wChunk_apply]
  refine (acc7_apply m c (ix2 r n)).trans ?_
  rw [whole, Fin.sum_univ_tiles 8 256 rfl, Fin.sum_univ_eight]
  simp only [hp]
  rfl

/-- The result on device `c`, entry by entry. -/
theorem outAt_apply (c : Dev nD) (r : Fin 128) (n : Fin 2048) : outAt m c (ix2 r n) = silu (whole m c r n) := by
  rw [← silu_of_reciprocal, ← acc7_eq]
  have h1 : Ideal.ofBits .f32 0x3F800000#32 = 1 := Ideal.ofBits_one_f32
  have h0 : Ideal.ofBits .f32 0x00000000#32 = 0 := Ideal.ofBits_zero_f32
  unfold outAt k0_pay27
  refine (shapeCast_apply _ shapeCasts_S128x2048_S128x2048 (ix2 r n) (ix2 r n) rfl).trans ?_
  show acc7 m c (ix2 r n) * Ideal.div (Ideal.ofBits .f32 0x3F800000#32)
    (Ideal.ofBits .f32 0x3F800000#32 + Ideal.exp (Ideal.ofBits .f32 0x00000000#32 - acc7 m c (ix2 r n))) = _
  rw [h1, h0]

end Cert.A2A

end
-- ==== Proof.Reference.lean ====
/-
What the two references compute over the extended reals, entry by entry, and where the mask is set: a product of the
whole arrays and `silu` of it, with or without the clip.
-/
module

public import proofs.«01_k».proof.Proof.Silu
public import proofs.«01_k».proof.Proof.Gen.ReferenceIdeal.Run
public import proofs.«01_k».proof.Proof.Gen.UnclippedIdeal.Run
public import proofs.«01_k».proof.Proof.Gen.On_within_clip
public import Idealize.ShloMosaic.Lib.StackMember

@[expose] public section

noncomputable section

namespace Cert.A2A

open Idealize.ShloMosaic
open Idealize.ShloMosaic.ValueIdx
open scoped BigOperators

/-- A 2048 by 2048 array of extended reals. -/
abbrev Mat : Type := (⟨2, ![2048, 2048]⟩ : Shape).Idx → EReal

/-- Entry `(r, n)` of the product of two of them. -/
def prod (x w : Mat) (r n : Fin 2048) : EReal := ∑ k : Fin 2048, x (ix2 r k) * w (ix2 k n)

/-- The host's product read at an entry. -/
theorem host_dot (x w : FVec Ideal ⟨2, ![2048, 2048]⟩ .f32) (r n : Fin 2048) :
    Host.dotGeneral (DotDims.plain 2048 2048 2048) none x w (ix2 r n) = prod x w r n := StackMember.dotGeneral_plain_apply none x w r n

/-- The reference without the clip, as its run leaves it, -/
def unclippedOut (x w : FVec Ideal ⟨2, ![2048, 2048]⟩ .f32) : FVec Ideal ⟨2, ![2048, 2048]⟩ .f32 :=
  Host.divf (Host.dotGeneral (DotDims.plain 2048 2048 2048) none x w)
    (addf (broadcastInDim ⟨2, ![2048, 2048]⟩ ![] Cert.UnclippedIdeal.Gen.bcast_S_S2048x2048 (constant ⟨0, ![]⟩ .f32 0x3F800000#32))
      (Host.exp (Host.negf (Host.dotGeneral (DotDims.plain 2048 2048 2048) none x w))))

/-- is `silu` of the product. -/
theorem unclippedOut_apply (x w : FVec Ideal ⟨2, ![2048, 2048]⟩ .f32) (r n : Fin 2048) :
    unclippedOut x w (ix2 r n) = silu (prod x w r n) := by
  rw [← host_dot]
  have h1 : Ideal.ofBits .f32 0x3F800000#32 = 1 := Ideal.ofBits_one_f32
  show Ideal.div _ (Ideal.ofBits .f32 0x3F800000#32 + Ideal.exp (-_)) = _
  rw [h1]; rfl

/-- The reference, as its run leaves it, -/
def clippedOut (x w : FVec Ideal ⟨2, ![2048, 2048]⟩ .f32) : FVec Ideal ⟨2, ![2048, 2048]⟩ .f32 :=
  Host.divf (Host.dotGeneral (DotDims.plain 2048 2048 2048) none x w)
    (addf (broadcastInDim ⟨2, ![2048, 2048]⟩ ![] Cert.ReferenceIdeal.Gen.bcast_S_S2048x2048 (constant ⟨0, ![]⟩ .f32 0x3F800000#32))
      (Host.exp (Host.negf
        (minimumf (broadcastInDim ⟨2, ![2048, 2048]⟩ ![] Cert.ReferenceIdeal.Gen.bcast_S_S2048x2048 (id (constant ⟨0, ![]⟩ .f32 0x42700000#32)))
          (maximumf (broadcastInDim ⟨2, ![2048, 2048]⟩ ![] Cert.ReferenceIdeal.Gen.bcast_S_S2048x2048 (id (constant ⟨0, ![]⟩ .f32 0xC2700000#32)))
            (Host.dotGeneral (DotDims.plain 2048 2048 2048) none x w))))))

/-- has the clip in the exponent. -/
theorem clippedOut_apply (x w : FVec Ideal ⟨2, ![2048, 2048]⟩ .f32) (r n : Fin 2048) :
    clippedOut x w (ix2 r n)
      = Ideal.div (prod x w r n) (1 + Ideal.exp (-(min clipHi (max clipLo (prod x w r n))))) := by
  rw [← host_dot]
  have h1 : Ideal.ofBits .f32 0x3F800000#32 = 1 := Ideal.ofBits_one_f32
  show Ideal.div _ (Ideal.ofBits .f32 0x3F800000#32 + Ideal.exp (-(min clipHi (max clipLo _)))) = _
  rw [h1]

/-- The mask is set only where the product lies between the clip's bounds. -/
theorem mask_within (x w : FVec Ideal ⟨2, ![2048, 2048]⟩ .f32) (r n : Fin 2048)
    (h : Cert.On_within_clip.fn (F := Ideal) x w (ix2 r n) = 1#1) : clipLo ≤ prod x w r n ∧ prod x w r n ≤ clipHi := by
  rw [← host_dot]
  have h' : Ideal.cmp .oge (Host.dotGeneral (DotDims.plain 2048 2048 2048) none x w (ix2 r n)) clipLo
      &&& Ideal.cmp .ole (Host.dotGeneral (DotDims.plain 2048 2048 2048) none x w (ix2 r n)) clipHi = 1#1 := h
  generalize Host.dotGeneral (DotDims.plain 2048 2048 2048) none x w (ix2 r n) = y at h' ⊢
  simp only [Ideal.cmp] at h'
  by_cases a : clipLo ≤ y <;> by_cases b : y ≤ clipHi <;> simp_all

/-- There the reference is `silu` of the product. -/
theorem clippedOut_within (x w : FVec Ideal ⟨2, ![2048, 2048]⟩ .f32) (r n : Fin 2048)
    (h : Cert.On_within_clip.fn (F := Ideal) x w (ix2 r n) = 1#1) : clippedOut x w (ix2 r n) = silu (prod x w r n) := by
  obtain ⟨h₁, h₂⟩ := mask_within x w r n h
  rw [clippedOut_apply, clip_within h₁ h₂, silu]

end Cert.A2A

end
-- ==== Proof.Meet.lean ====
/-
Where the kernel meets the reference: when the devices hold the column blocks of one operand and copies of one weight,
the rows that device `c` has assembled are rows `128 c` to `128 c + 127` of that operand, so its product is that row
block of the whole product.
-/
module

public import proofs.«01_k».proof.Proof.Product
public import proofs.«01_k».proof.Proof.Reference
public import Idealize.ShloMosaic.Lib.Layout

@[expose] public section

noncomputable section

namespace Cert.A2A

open Cert.KernelIdeal Cert.KernelIdeal.Gen
open Idealize.ShloMosaic hiding ix2 ix3
open Idealize.ShloMosaic.TcCoe
open Idealize.ShloMosaic.ValueIdx
open scoped BigOperators

variable (m : (ℓ : Loc nD τ sig) → Buf (Elt Ideal) ℓ) (x w : Mat)

/-- Every device holds its columns of `x`, and `w`. -/
def Holds : Prop := ∀ c : Dev nD,
  m ((c.tc : Thread nD τ).loc main_arg0) = Layout.block ⟨2, ![2048, 128]⟩ ⟨2, ![2048, 2048]⟩ 1 16 c x
  ∧ m ((c.tc : Thread nD τ).loc main_arg1) = w

variable {m x w}

/-- The assembled rows are the operand's. -/
theorem row_of_holds (h : Holds m x w) (c : Fin 16) (r : Fin 128) (k : Fin 2048) :
    ROW m c (ix2 r k) = x (ix2 (⟨128 * c.val + r.val, row_lt c r⟩ : Fin 2048) k) := by
  have hj : k.val / 128 < 16 := by omega
  have hl : k.val % 128 < 128 := Nat.mod_lt _ (by decide)
  show k0_pay1 (X m (⟨k.val / 128, hj⟩ : Fin 16)) (ix2 (⟨128 * c.val + r.val, row_lt c r⟩ : Fin 2048) (⟨k.val % 128, hl⟩ : Fin 128)) = _
  unfold k0_pay1
  refine (shapeCast_apply _ shapeCasts_S2048x128_S2048x128 _ _ rfl).trans ?_
  show X m (⟨k.val / 128, hj⟩ : Fin 16) (ix2 (⟨128 * c.val + r.val, row_lt c r⟩ : Fin 2048) (⟨k.val % 128, hl⟩ : Fin 128)) = _
  refine (congrFun (h (⟨k.val / 128, hj⟩ : Fin 16)).1 _).trans ?_
  refine (Layout.block_apply _ _ _ _).trans (congrArg x (funext fun a => Fin.ext ?_))
  match a with
  | ⟨0, _⟩ => rfl
  | ⟨1, _⟩ => show k.val / 128 * 128 + k.val % 128 = k.val; omega

/-- The device's product is its row block of the whole product. -/
theorem whole_of_holds (h : Holds m x w) (c : Fin 16) (r : Fin 128) (n : Fin 2048) :
    whole m c r n = prod x w (⟨128 * c.val + r.val, row_lt c r⟩ : Fin 2048) n :=
  Finset.sum_congr rfl fun k _ => by rw [row_of_holds h c r k, show Wt m c = w from (h c).2]

/-- Device `c`'s row block of a whole array. -/
def rowsOf {α : Type} (c : Fin 16) (v : (⟨2, ![2048, 2048]⟩ : Shape).Idx → α) : (⟨2, ![128, 2048]⟩ : Shape).Idx → α :=
  Layout.block ⟨2, ![128, 2048]⟩ ⟨2, ![2048, 2048]⟩ 0 16 c v

/-- Its row `r` is the whole array's row `128 c + r`. -/
theorem rowsOf_apply {α : Type} (c : Fin 16) (v : (⟨2, ![2048, 2048]⟩ : Shape).Idx → α) (r : Fin 128) (n : Fin 2048) :
    rowsOf c v (ix2 r n) = v (ix2 (⟨128 * c.val + r.val, row_lt c r⟩ : Fin 2048) n) := by
  refine (Layout.block_apply _ _ _ _).trans (congrArg v (funext fun a => Fin.ext ?_))
  match a with
  | ⟨0, _⟩ => show c.val * 128 + r.val = 128 * c.val + r.val; omega
  | ⟨1, _⟩ => rfl

/-- An index of a device's rows is a row and a column. -/
theorem exists_pair (i : (⟨2, ![128, 2048]⟩ : Shape).Idx) : ∃ (r : Fin 128) (n : Fin 2048), i = ix2 r n :=
  ⟨i 0, i 1, funext fun a => by
    match a with
    | ⟨0, _⟩ => rfl
    | ⟨1, _⟩ => rfl⟩

/-- So the result on a device is `silu` of its row block of the whole product. -/
theorem out_of_holds (h : Holds m x w) (c : Fin 16) (r : Fin 128) (n : Fin 2048) :
    outAt m c (ix2 r n) = silu (prod x w (⟨128 * c.val + r.val, row_lt c r⟩ : Fin 2048) n) := by
  rw [outAt_apply, whole_of_holds h]

/-- Without the clip the device's result is its row block of the reference's, -/
theorem out_unclipped (h : Holds m x w) (c : Fin 16) : outAt m c = rowsOf c (unclippedOut x w) :=
  funext fun i => by
    obtain ⟨r, n, rfl⟩ := exists_pair i
    exact (out_of_holds h c r n).trans ((unclippedOut_apply x w _ n).symm.trans (rowsOf_apply c _ r n).symm)

/-- with the clip it is so wherever the mask is set. -/
theorem out_clipped (h : Holds m x w) (c : Fin 16) (i : (⟨2, ![128, 2048]⟩ : Shape).Idx)
    (hi : rowsOf c (Cert.On_within_clip.fn (F := Ideal) x w) i = 1#1) : outAt m c i = rowsOf c (clippedOut x w) i := by
  obtain ⟨r, n, rfl⟩ := exists_pair i
  have hi' := (rowsOf_apply c _ r n).symm.trans hi
  exact (out_of_holds h c r n).trans ((clippedOut_within x w _ n hi').symm.trans (rowsOf_apply c _ r n).symm)

end Cert.A2A

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.UnclippedIdeal
public import proofs.«01_k».proof.Proof.Gen.On_within_clip
public import proofs.«01_k».proof.Proof.Gen.UnclippedIdeal.Run
public import proofs.«01_k».proof.Proof.Launch
public import proofs.«01_k».proof.Proof.Meet
public import Idealize.ShloMosaic.Adequacy
public import Idealize.ShloMosaic.Init

@[expose] public section

noncomputable section

namespace Cert.Proof

open Idealize.ShloMosaic Idealize.SL.Sem Cert.Kernel

/-- The kernel ends, its arguments unchanged and every counter at zero: the run over any float values, at words. -/
theorem frame_kernel : Cert.quiescent_Kernel := fun m ρ _ =>
  (θ_run Cert.KernelIdeal.defs _ _).mono (fun _ h => ⟨fun c => ⟨(h.1 c).1, (h.1 c).2.1⟩, h.2⟩) (Cert.A2A.run_main (F := Bits) m ρ)

/-- The same run over the extended reals. -/
theorem frame_kernelIdeal : Cert.quiescent_KernelIdeal := fun m ρ _ =>
  (θ_run Cert.KernelIdeal.defs _ _).mono (fun _ h => ⟨fun c => ⟨(h.1 c).1, (h.1 c).2.1⟩, h.2⟩) (Cert.A2A.run_main (F := Ideal) m ρ)

/-- The references are host operations, without a semaphore. -/
theorem frame_referenceIdeal : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

theorem frame_unclippedIdeal : Cert.quiescent_UnclippedIdeal := fun m ρ _ =>
  (θ_run Cert.UnclippedIdeal.defs _ _).mono (fun r h => ⟨fun c => (h c).2, sem_eq_zero_of_no_sems (by decide) r.2⟩)
    (Cert.UnclippedIdeal.Value.run (F := Ideal) m ρ)

/-- Over the extended reals every device's result is its row block of the reference without the clip. -/
theorem algebraic_unclipped : Cert.algebraic_KernelIdeal_UnclippedIdeal := by
  intro m ρ m' ρ' _ hagree
  refine ⟨Cert.A2A.unclippedOut (m' (((0 : Dev Cert.UnclippedIdeal.nD).tc : Thread Cert.UnclippedIdeal.nD Cert.UnclippedIdeal.τ).loc Cert.UnclippedIdeal.main_arg0))
    (m' (((0 : Dev Cert.UnclippedIdeal.nD).tc : Thread Cert.UnclippedIdeal.nD Cert.UnclippedIdeal.τ).loc Cert.UnclippedIdeal.main_arg1)), ?_, ?_⟩
  · exact (θ_run Cert.KernelIdeal.defs _ _).mono
      (fun _ h c => ⟨(h.1 c).2.2.trans (Cert.A2A.out_unclipped hagree c), (h.1 c).1, (h.1 c).2.1⟩) (Cert.A2A.run_main (F := Ideal) m ρ)
  · exact (θ_run Cert.UnclippedIdeal.defs _ _).mono (fun _ h => h 0) (Cert.UnclippedIdeal.Value.run (F := Ideal) m' ρ')

/-- And it is its row block of the reference itself, at every element that the reference's clip leaves as it is. -/
theorem algebraic_reference : Cert.algebraic_KernelIdeal_ReferenceIdeal_on_within_clip := by
  intro m ρ m' ρ' _ hagree
  refine ⟨Cert.A2A.clippedOut (m' (((0 : Dev Cert.ReferenceIdeal.nD).tc : Thread Cert.ReferenceIdeal.nD Cert.ReferenceIdeal.τ).loc Cert.ReferenceIdeal.main_arg0))
    (m' (((0 : Dev Cert.ReferenceIdeal.nD).tc : Thread Cert.ReferenceIdeal.nD Cert.ReferenceIdeal.τ).loc Cert.ReferenceIdeal.main_arg1)), ?_, ?_⟩
  · exact (θ_run Cert.KernelIdeal.defs _ _).mono
      (fun _ h c => ⟨fun i hi => (congrFun (h.1 c).2.2 i).trans (Cert.A2A.out_clipped hagree c i hi), (h.1 c).1, (h.1 c).2.1⟩)
      (Cert.A2A.run_main (F := Ideal) m ρ)
  · exact (θ_run Cert.ReferenceIdeal.defs _ _).mono (fun _ h => ⟨fun i _ => congrFun (h 0).1 i, (h 0).2⟩)
      (Cert.ReferenceIdeal.Value.run (F := Ideal) m' ρ')

/-- Every claim. -/
theorem claim : Cert.Claim :=
  ⟨Cert.Kernel.Gen.facts, Cert.KernelIdeal.Gen.facts, Cert.ReferenceIdeal.Gen.facts, Cert.UnclippedIdeal.Gen.facts, Cert.On_within_clip.Gen.facts,
    frame_kernel, frame_kernelIdeal, frame_referenceIdeal, frame_unclippedIdeal, trivial, algebraic_unclipped, algebraic_reference⟩

end Cert.Proof

end
